-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_Experts [hPre_block_tables : Cert.Pre_block_tables.Facts] (m : (ℓ : Loc Cert.Experts.nD Cert.Experts.τ Cert.Experts.sig) → Buf (Elt Bits) ℓ) : Prop :=
  ∀ c : Dev Cert.Experts.nD,
    (Cert.Pre_block_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_block_tables : Cert.Pre_block_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_block_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_block_tables [hPre_block_tables : Cert.Pre_block_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_block_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2)
      ∧ r.2.mem ((c.tc : Thread Cert.OddProj.nD Cert.OddProj.τ).loc Cert.OddProj.main_arg3) = m ((c.tc : Thread Cert.OddProj.nD Cert.OddProj.τ).loc Cert.OddProj.main_arg3))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
      ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2)
      ∧ r.2.mem ((c.tc : Thread Cert.OddProjRefIdeal.nD Cert.OddProjRefIdeal.τ).loc Cert.OddProjRefIdeal.main_arg3) = m ((c.tc : Thread Cert.OddProjRefIdeal.nD Cert.OddProjRefIdeal.τ).loc Cert.OddProjRefIdeal.main_arg3))
      ∧ r.2.sem = fun _ => 0)

def quiescent_Experts [hExperts : Cert.Experts.Facts] [hPre_block_tables : Cert.Pre_block_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_block_tables : Cert.Pre_block_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_block_tables [hExpertsRefIdeal : Cert.ExpertsRefIdeal.Facts] [hPre_block_tables : Cert.Pre_block_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_block_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)) →
    ∃ (v0 : (c : Dev Cert.EvenProjIdeal.nD) → Buf (Elt Ideal) ((c.tc : Thread Cert.EvenProjIdeal.nD Cert.EvenProjIdeal.τ).loc Cert.EvenProjIdeal.main_v1_0)) (v1 : (c : Dev Cert.EvenProjIdeal.nD) → Buf (Elt Ideal) ((c.tc : Thread Cert.EvenProjIdeal.nD Cert.EvenProjIdeal.τ).loc Cert.EvenProjIdeal.main_v1_1)) (v2 : (c : Dev Cert.EvenProjIdeal.nD) → Buf (Elt Ideal) ((c.tc : Thread Cert.EvenProjIdeal.nD Cert.EvenProjIdeal.τ).loc Cert.EvenProjIdeal.main_v1_2)) (v3 : (c : Dev Cert.EvenProjIdeal.nD) → Buf (Elt Ideal) ((c.tc : Thread Cert.EvenProjIdeal.nD Cert.EvenProjIdeal.τ).loc Cert.EvenProjIdeal.main_v1_3)) (v4 : (c : Dev Cert.EvenProjIdeal.nD) → Buf (Elt Ideal) ((c.tc : Thread Cert.EvenProjIdeal.nD Cert.EvenProjIdeal.τ).loc Cert.EvenProjIdeal.main_v1_4)) (v5 : (c : Dev Cert.EvenProjIdeal.nD) → Buf (Elt Ideal) ((c.tc : Thread Cert.EvenProjIdeal.nD Cert.EvenProjIdeal.τ).loc Cert.EvenProjIdeal.main_v1_5)) (v6 : (c : Dev Cert.EvenProjIdeal.nD) → Buf (Elt Ideal) ((c.tc : Thread Cert.EvenProjIdeal.nD Cert.EvenProjIdeal.τ).loc Cert.EvenProjIdeal.main_v1_6)) (v7 : (c : Dev Cert.EvenProjIdeal.nD) → Buf (Elt Ideal) ((c.tc : Thread Cert.EvenProjIdeal.nD Cert.EvenProjIdeal.τ).loc Cert.EvenProjIdeal.main_v1_7)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v1_0) = v0 c
          ∧ r.2.mem ((c.tc : Thread Cert.EvenProjIdeal.nD Cert.EvenProjIdeal.τ).loc Cert.EvenProjIdeal.main_v1_1) = v1 c
          ∧ r.2.mem ((c.tc : Thread Cert.EvenProjIdeal.nD Cert.EvenProjIdeal.τ).loc Cert.EvenProjIdeal.main_v1_2) = v2 c
          ∧ r.2.mem ((c.tc : Thread Cert.EvenProjIdeal.nD Cert.EvenProjIdeal.τ).loc Cert.EvenProjIdeal.main_v1_3) = v3 c
          ∧ r.2.mem ((c.tc : Thread Cert.EvenProjIdeal.nD Cert.EvenProjIdeal.τ).loc Cert.EvenProjIdeal.main_v1_4) = v4 c
          ∧ r.2.mem ((c.tc : Thread Cert.EvenProjIdeal.nD Cert.EvenProjIdeal.τ).loc Cert.EvenProjIdeal.main_v1_5) = v5 c
          ∧ r.2.mem ((c.tc : Thread Cert.EvenProjIdeal.nD Cert.EvenProjIdeal.τ).loc Cert.EvenProjIdeal.main_v1_6) = v6 c
          ∧ r.2.mem ((c.tc : Thread Cert.EvenProjIdeal.nD Cert.EvenProjIdeal.τ).loc Cert.EvenProjIdeal.main_v1_7) = v7 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v38) = v0 c
          ∧ r.2.mem ((c.tc : Thread Cert.EvenProjRefIdeal.nD Cert.EvenProjRefIdeal.τ).loc Cert.EvenProjRefIdeal.main_v39) = v1 c
          ∧ r.2.mem ((c.tc : Thread Cert.EvenProjRefIdeal.nD Cert.EvenProjRefIdeal.τ).loc Cert.EvenProjRefIdeal.main_v40) = v2 c
          ∧ r.2.mem ((c.tc : Thread Cert.EvenProjRefIdeal.nD Cert.EvenProjRefIdeal.τ).loc Cert.EvenProjRefIdeal.main_v43) = v3 c
          ∧ r.2.mem ((c.tc : Thread Cert.EvenProjRefIdeal.nD Cert.EvenProjRefIdeal.τ).loc Cert.EvenProjRefIdeal.main_v32) = v4 c
          ∧ r.2.mem ((c.tc : Thread Cert.EvenProjRefIdeal.nD Cert.EvenProjRefIdeal.τ).loc Cert.EvenProjRefIdeal.main_v33) = v5 c
          ∧ r.2.mem ((c.tc : Thread Cert.EvenProjRefIdeal.nD Cert.EvenProjRefIdeal.τ).loc Cert.EvenProjRefIdeal.main_v34) = v6 c
          ∧ r.2.mem ((c.tc : Thread Cert.EvenProjRefIdeal.nD Cert.EvenProjRefIdeal.τ).loc Cert.EvenProjRefIdeal.main_v35) = v7 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)
      ∧ m' ((c.tc : Thread Cert.OddProjRefIdeal.nD Cert.OddProjRefIdeal.τ).loc Cert.OddProjRefIdeal.main_arg3) = m ((c.tc : Thread Cert.OddProjIdeal.nD Cert.OddProjIdeal.τ).loc Cert.OddProjIdeal.main_arg3)) →
    ∃ (v0 : (c : Dev Cert.OddProjIdeal.nD) → Buf (Elt Ideal) ((c.tc : Thread Cert.OddProjIdeal.nD Cert.OddProjIdeal.τ).loc Cert.OddProjIdeal.main_v1_0)) (v1 : (c : Dev Cert.OddProjIdeal.nD) → Buf (Elt Ideal) ((c.tc : Thread Cert.OddProjIdeal.nD Cert.OddProjIdeal.τ).loc Cert.OddProjIdeal.main_v1_1)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v1_0) = v0 c
          ∧ r.2.mem ((c.tc : Thread Cert.OddProjIdeal.nD Cert.OddProjIdeal.τ).loc Cert.OddProjIdeal.main_v1_1) = v1 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
          ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v28) = v0 c
          ∧ r.2.mem ((c.tc : Thread Cert.OddProjRefIdeal.nD Cert.OddProjRefIdeal.τ).loc Cert.OddProjRefIdeal.main_v29) = v1 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2)
          ∧ r.2.mem ((c.tc : Thread Cert.OddProjRefIdeal.nD Cert.OddProjRefIdeal.τ).loc Cert.OddProjRefIdeal.main_arg3) = m' ((c.tc : Thread Cert.OddProjRefIdeal.nD Cert.OddProjRefIdeal.τ).loc Cert.OddProjRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_block_tables : Cert.Pre_block_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v44) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hKernel : Cert.Kernel.Facts) (hKernelIdeal : Cert.KernelIdeal.Facts) (hReferenceIdeal : Cert.ReferenceIdeal.Facts) (hEvenProj : Cert.EvenProj.Facts) (hEvenProjIdeal : Cert.EvenProjIdeal.Facts) (hEvenProjRefIdeal : Cert.EvenProjRefIdeal.Facts) (hOddProj : Cert.OddProj.Facts) (hOddProjIdeal : Cert.OddProjIdeal.Facts) (hOddProjRefIdeal : Cert.OddProjRefIdeal.Facts) (hExperts : Cert.Experts.Facts) (hExpertsIdeal : Cert.ExpertsIdeal.Facts) (hExpertsRefIdeal : Cert.ExpertsRefIdeal.Facts) (hPre_finite_scores : Cert.Pre_finite_scores.Facts) (hPre_block_tables : Cert.Pre_block_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_Experts (hExperts := hExperts) (hPre_block_tables := hPre_block_tables)
    ∧ quiescent_ExpertsIdeal (hExpertsIdeal := hExpertsIdeal) (hPre_block_tables := hPre_block_tables)
    ∧ quiescent_ExpertsRefIdeal (hExpertsRefIdeal := hExpertsRefIdeal)
    ∧ quiescent_ExpertsRefIdeal_pre_block_tables (hExpertsRefIdeal := hExpertsRefIdeal) (hPre_block_tables := hPre_block_tables)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_EvenProj_EvenProjIdeal
    ∧ algebraic_EvenProjIdeal_EvenProjRefIdeal (hEvenProjIdeal := hEvenProjIdeal) (hEvenProjRefIdeal := hEvenProjRefIdeal)
    ∧ preserves_OddProj_OddProjIdeal
    ∧ algebraic_OddProjIdeal_OddProjRefIdeal (hOddProjIdeal := hOddProjIdeal) (hOddProjRefIdeal := hOddProjRefIdeal)
    ∧ preserves_Experts_ExpertsIdeal
    ∧ algebraic_ExpertsIdeal_ExpertsRefIdeal (hExpertsIdeal := hExpertsIdeal) (hExpertsRefIdeal := hExpertsRefIdeal) (hPre_block_tables := hPre_block_tables)
-- ==== Pre_block_tables.lean ====
abbrev S329728x512 : Shape := ⟨2, ![329728, 512]⟩
abbrev S322 : Shape := ⟨1, ![322]⟩
abbrev S4x64x1024x256 : Shape := ⟨4, ![4, 64, 1024, 256]⟩
abbrev S4x64x256x1024 : Shape := ⟨4, ![4, 64, 256, 1024]⟩
abbrev S_ : Shape := ⟨0, ![]⟩

class Facts : Prop where
  bcast_S_S322 : S_.BroadcastsInDim S322 (![] : Fin 0 → Fin S322.rank)
  reducesTo_S322_S_d0 : S322.ReducesTo [0] S_
  h_S_ : 0 < S_.numel

variable [Facts]

def fn {F : FTy → Type} [FloatOps F] (main_arg0 : IVec S329728x512 32) (main_arg1 : IVec S322 32) (main_arg2 : IVec S322 32) (main_arg3 : FVec F S4x64x1024x256 .f32) (main_arg4 : FVec F S4x64x1024x256 .f32) (main_arg5 : FVec F S4x64x256x1024 .f32) : IVec S_ 1 :=
  let main_c : IVec S_ 32 := constantI S_ 32 0#32
  let main_v0 : IVec S322 32 := broadcastInDim S322 ![] bcast_S_S322 main_c
  let main_v1 : IVec S322 1 := cmpi .sge main_arg1 main_v0
  let main_c_0 : IVec S_ 32 := constantI S_ 32 64#32
  let main_v2 : IVec S322 32 := broadcastInDim S322 ![] bcast_S_S322 main_c_0
  let main_v3 : IVec S322 1 := cmpi .slt main_arg1 main_v2
  let main_v4 : IVec S322 1 := andi main_v1 main_v3
  let main_c_1 : IVec S_ 1 := constantI S_ 1 1#1
  let main_v5 : IVec S_ 1 := (fun x v => Host.reduce IntOp.andi x v reducesTo_S322_S_d0 h_S_) main_v4 main_c_1
  let main_c_2 : IVec S_ 32 := constantI S_ 32 0#32
  let main_v6 : IVec S322 32 := broadcastInDim S322 ![] bcast_S_S322 main_c_2
  let main_v7 : IVec S322 1 := cmpi .sge main_arg2 main_v6
  let main_c_3 : IVec S_ 1 := constantI S_ 1 1#1
  let main_v8 : IVec S_ 1 := (fun x v => Host.reduce IntOp.andi x v reducesTo_S322_S_d0 h_S_) main_v7 main_c_3
  let main_v9 : IVec S_ 1 := andi main_v5 main_v8
  main_v9
-- ==== Pre_finite_scores.lean ====
abbrev S33792x512 : Shape := ⟨2, ![33792, 512]⟩
abbrev S8x15x31 : Shape := ⟨3, ![8, 15, 31]⟩
abbrev S_ : Shape := ⟨0, ![]⟩

class Facts : Prop where
  bitsLt_bf16_f32 : FTy.bits .bf16 < FTy.bits .f32
  bcast_S_S33792x512 : S_.BroadcastsInDim S33792x512 (![] : Fin 0 → Fin S33792x512.rank)
  reducesTo_S33792x512_S_d0_1 : S33792x512.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S33792x512 .bf16) (main_arg1 : FVec F S33792x512 .bf16) (main_arg2 : FVec F S33792x512 .bf16) (main_arg3 : FVec F S8x15x31 .f32) : IVec S_ 1 :=
  let main_v0 : FVec F S33792x512 .f32 := (extf .f32 · bitsLt_bf16_f32) main_arg0
  let main_v1 : FVec F S33792x512 .f32 := Host.absf main_v0
  let main_cst : FVec F S_ .f32 := constant S_ .f32 0x7F800000#32
  let main_v2 : FVec F S33792x512 .f32 := broadcastInDim S33792x512 ![] bcast_S_S33792x512 main_cst
  let main_v3 : IVec S33792x512 1 := cmpf .olt main_v1 main_v2
  let main_c : IVec S_ 1 := constantI S_ 1 1#1
  let main_v4 : IVec S_ 1 := (fun x v => Host.reduce IntOp.andi x v reducesTo_S33792x512_S_d0_1 h_S_) main_v3 main_c
  let main_v5 : FVec F S33792x512 .f32 := (extf .f32 · bitsLt_bf16_f32) main_arg1
  let main_v6 : FVec F S33792x512 .f32 := Host.absf main_v5
  let main_cst_0 : FVec F S_ .f32 := constant S_ .f32 0x7F800000#32
  let main_v7 : FVec F S33792x512 .f32 := broadcastInDim S33792x512 ![] bcast_S_S33792x512 main_cst_0
  let main_v8 : IVec S33792x512 1 := cmpf .olt main_v6 main_v7
  let main_c_1 : IVec S_ 1 := constantI S_ 1 1#1
  let main_v9 : IVec S_ 1 := (fun x v => Host.reduce IntOp.andi x v reducesTo_S33792x512_S_d0_1 h_S_) main_v8 main_c_1
  let main_v10 : IVec S_ 1 := andi main_v4 main_v9
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  main_v15
-- ==== Kernel.lean ====
abbrev S33792x512 : Shape := ⟨2, ![33792, 512]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S4096 : Shape := ⟨1, ![4096]⟩
abbrev S4096x1 : Shape := ⟨2, ![4096, 1]⟩
abbrev S8x15x4096 : Shape := ⟨3, ![8, 15, 4096]⟩
abbrev S4 : Shape := ⟨1, ![4]⟩
abbrev S4x1 : Shape := ⟨2, ![4, 1]⟩
abbrev S12 : Shape := ⟨1, ![12]⟩
abbrev S1x12 : Shape := ⟨2, ![1, 12]⟩
abbrev S4x12 : Shape := ⟨2, ![4, 12]⟩
abbrev S48 : Shape := ⟨1, ![48]⟩
abbrev S48x1 : Shape := ⟨2, ![48, 1]⟩
abbrev S8x48x4096 : Shape := ⟨3, ![8, 48, 4096]⟩
abbrev S8x4x12x64x64 : Shape := ⟨5, ![8, 4, 12, 64, 64]⟩
abbrev S8x4x64x12x64 : Shape := ⟨5, ![8, 4, 64, 12, 64]⟩
abbrev S4x1x12x1 : Shape := ⟨4, ![4, 1, 12, 1]⟩
abbrev S1x64x1x64 : Shape := ⟨4, ![1, 64, 1, 64]⟩
abbrev S4x64x12x64 : Shape := ⟨4, ![4, 64, 12, 64]⟩
abbrev S1x4x64x12x64 : Shape := ⟨5, ![1, 4, 64, 12, 64]⟩
abbrev S8x256x768 : Shape := ⟨3, ![8, 256, 768]⟩
abbrev S1x8x256x768 : Shape := ⟨4, ![1, 8, 256, 768]⟩
abbrev S3x8x256x768 : Shape := ⟨4, ![3, 8, 256, 768]⟩
abbrev S32768x512 : Shape := ⟨2, ![32768, 512]⟩
abbrev S256x128 : Shape := ⟨2, ![256, 128]⟩
abbrev S1x2x256x768 : Shape := ⟨4, ![1, 2, 256, 768]⟩
abbrev S1x128 : Shape := ⟨2, ![1, 128]⟩
abbrev S256x256 : Shape := ⟨2, ![256, 256]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 277
  | .vmem => 22
  | .smem => 0
  | _ => 0

abbrev hbmTy0_0 (i : Nat) : BufTy := match i % 128 with
  | 0 => ⟨S33792x512, .bf16⟩
  | 1 => ⟨S33792x512, .bf16⟩
  | 2 => ⟨S33792x512, .bf16⟩
  | 3 => ⟨S8x15x31, .f32⟩
  | 4 => ⟨S64, .i32⟩
  | 5 => ⟨S64x1, .i32⟩
  | 6 => ⟨S64, .i32⟩
  | 7 => ⟨S1x64, .i32⟩
  | 8 => ⟨S_, .i32⟩
  | 9 => ⟨S64x1, .i32⟩
  | 10 => ⟨S64x1, .i32⟩
  | 11 => ⟨S_, .i32⟩
  | 12 => ⟨S_, .i32⟩
  | 13 => ⟨S_, .i32⟩
  | 14 => ⟨S64x1, .i32⟩
  | 15 => ⟨S64x1, .i32⟩
  | 16 => ⟨S_, .i32⟩
  | 17 => ⟨S64x1, .i32⟩
  | 18 => ⟨S64x1, .i32⟩
  | 19 => ⟨S64x64, .i32⟩
  | 20 => ⟨S64x64, .i32⟩
  | 21 => ⟨S64x64, .i1⟩
  | 22 => ⟨S_, .i32⟩
  | 23 => ⟨S64x1, .i32⟩
  | 24 => ⟨S64x1, .i32⟩
  | 25 => ⟨S64x64, .i32⟩
  | 26 => ⟨S64x64, .i32⟩
  | 27 => ⟨S64x64, .i1⟩
  | 28 => ⟨S64x64, .i1⟩
  | 29 => ⟨S64x64, .i32⟩
  | 30 => ⟨S64x64, .i32⟩
  | 31 => ⟨S64x64, .i32⟩
  | 32 => ⟨S_, .i32⟩
  | 33 => ⟨S64x64, .i32⟩
  | 34 => ⟨S64x64, .i32⟩
  | 35 => ⟨S_, .i32⟩
  | 36 => ⟨S64x64, .i32⟩
  | 37 => ⟨S64x64, .i32⟩
  | 38 => ⟨S_, .i32⟩
  | 39 => ⟨S_, .i32⟩
  | 40 => ⟨S_, .i32⟩
  | 41 => ⟨S64x64, .i32⟩
  | 42 => ⟨S64x64, .i32⟩
  | 43 => ⟨S_, .i32⟩
  | 44 => ⟨S64x64, .i32⟩
  | 45 => ⟨S64x64, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S8x15x4096, .f32⟩
  | 56 => ⟨S4, .i32⟩
  | 57 => ⟨S4x1, .i32⟩
  | 58 => ⟨S_, .i32⟩
  | 59 => ⟨S4x1, .i32⟩
  | 60 => ⟨S4x1, .i32⟩
  | 61 => ⟨S12, .i32⟩
  | 62 => ⟨S1x12, .i32⟩
  | 63 => ⟨S_, .i32⟩
  | 64 => ⟨S1x12, .i32⟩
  | 65 => ⟨S1x12, .i32⟩
  | 66 => ⟨S_, .i32⟩
  | 67 => ⟨S4x1, .i32⟩
  | 68 => ⟨S4x1, .i32⟩
  | 69 => ⟨S_, .i32⟩
  | 70 => ⟨S_, .i32⟩
  | 71 => ⟨S_, .i32⟩
  | 72 => ⟨S4x1, .i32⟩
  | 73 => ⟨S4x1, .i32⟩
  | 74 => ⟨S_, .i32⟩
  | 75 => ⟨S4x1, .i32⟩
  | 76 => ⟨S4x1, .i32⟩
  | 77 => ⟨S4x12, .i32⟩
  | 78 => ⟨S4x12, .i32⟩
  | 79 => ⟨S4x12, .i1⟩
  | 80 => ⟨S_, .i32⟩
  | 81 => ⟨S4x1, .i32⟩
  | 82 => ⟨S4x1, .i32⟩
  | 83 => ⟨S4x12, .i32⟩
  | 84 => ⟨S4x12, .i32⟩
  | 85 => ⟨S4x12, .i1⟩
  | 86 => ⟨S4x12, .i1⟩
  | 87 => ⟨S4x12, .i32⟩
  | 88 => ⟨S4x12, .i32⟩
  | 89 => ⟨S4x12, .i32⟩
  | 90 => ⟨S_, .i32⟩
  | 91 => ⟨S4x12, .i32⟩
  | 92 => ⟨S4x12, .i32⟩
  | 93 => ⟨S_, .i32⟩
  | 94 => ⟨S4x12, .i32⟩
  | 95 => ⟨S4x12, .i32⟩
  | 96 => ⟨S_, .i32⟩
  | 97 => ⟨S_, .i32⟩
  | 98 => ⟨S_, .i32⟩
  | 99 => ⟨S4x12, .i32⟩
  | 100 => ⟨S4x12, .i32⟩
  | 101 => ⟨S_, .i32⟩
  | 102 => ⟨S4x12, .i32⟩
  | 103 => ⟨S4x12, .i32⟩
  | 104 => ⟨S48, .i32⟩
  | 105 => ⟨S_, .i32⟩
  | 106 => ⟨S48, .i32⟩
  | 107 => ⟨S48, .i1⟩
  | 108 => ⟨S_, .i32⟩
  | 109 => ⟨S48, .i32⟩
  | 110 => ⟨S48, .i32⟩
  | 111 => ⟨S48, .i32⟩
  | 112 => ⟨S48x1, .i32⟩
  | 113 => ⟨S8x48x4096, .f32⟩
  | 114 => ⟨S8x4x12x64x64, .f32⟩
  | 115 => ⟨S8x4x64x12x64, .f32⟩
  | 116 => ⟨S4x1x12x1, .i1⟩
  | 117 => ⟨S1x64x1x64, .i1⟩
  | 118 => ⟨S4x64x12x64, .i1⟩
  | 119 => ⟨S4x64x12x64, .i1⟩
  | 120 => ⟨S4x64x12x64, .i1⟩
  | 121 => ⟨S1x4x64x12x64, .i1⟩
  | 122 => ⟨S_, .f32⟩
  | 123 => ⟨S_, .f32⟩
  | 124 => ⟨S8x4x64x12x64, .i1⟩
  | 125 => ⟨S8x4x64x12x64, .f32⟩
  | 126 => ⟨S8x4x64x12x64, .f32⟩
  | 127 => ⟨S8x256x768, .f32⟩
  | _ => ⟨S33792x512, .bf16⟩

abbrev hbmTy0_1 (i : Nat) : BufTy := match i % 128 with
  | 0 => ⟨S4, .i32⟩
  | 1 => ⟨S4x1, .i32⟩
  | 2 => ⟨S_, .i32⟩
  | 3 => ⟨S4x1, .i32⟩
  | 4 => ⟨S4x1, .i32⟩
  | 5 => ⟨S12, .i32⟩
  | 6 => ⟨S1x12, .i32⟩
  | 7 => ⟨S_, .i32⟩
  | 8 => ⟨S1x12, .i32⟩
  | 9 => ⟨S1x12, .i32⟩
  | 10 => ⟨S_, .i32⟩
  | 11 => ⟨S4x1, .i32⟩
  | 12 => ⟨S4x1, .i32⟩
  | 13 => ⟨S_, .i32⟩
  | 14 => ⟨S_, .i32⟩
  | 15 => ⟨S_, .i32⟩
  | 16 => ⟨S4x1, .i32⟩
  | 17 => ⟨S4x1, .i32⟩
  | 18 => ⟨S_, .i32⟩
  | 19 => ⟨S4x1, .i32⟩
  | 20 => ⟨S4x1, .i32⟩
  | 21 => ⟨S4x12, .i32⟩
  | 22 => ⟨S4x12, .i32⟩
  | 23 => ⟨S4x12, .i1⟩
  | 24 => ⟨S_, .i32⟩
  | 25 => ⟨S4x1, .i32⟩
  | 26 => ⟨S4x1, .i32⟩
  | 27 => ⟨S4x12, .i32⟩
  | 28 => ⟨S4x12, .i32⟩
  | 29 => ⟨S4x12, .i1⟩
  | 30 => ⟨S4x12, .i1⟩
  | 31 => ⟨S4x12, .i32⟩
  | 32 => ⟨S4x12, .i32⟩
  | 33 => ⟨S4x12, .i32⟩
  | 34 => ⟨S_, .i32⟩
  | 35 => ⟨S4x12, .i32⟩
  | 36 => ⟨S4x12, .i32⟩
  | 37 => ⟨S_, .i32⟩
  | 38 => ⟨S4x12, .i32⟩
  | 39 => ⟨S4x12, .i32⟩
  | 40 => ⟨S_, .i32⟩
  | 41 => ⟨S_, .i32⟩
  | 42 => ⟨S_, .i32⟩
  | 43 => ⟨S4x12, .i32⟩
  | 44 => ⟨S4x12, .i32⟩
  | 45 => ⟨S_, .i32⟩
  | 46 => ⟨S4x12, .i32⟩
  | 47 => ⟨S4x12, .i32⟩
  | 48 => ⟨S48, .i32⟩
  | 49 => ⟨S_, .i32⟩
  | 50 => ⟨S48, .i32⟩
  | 51 => ⟨S48, .i1⟩
  | 52 => ⟨S_, .i32⟩
  | 53 => ⟨S48, .i32⟩
  | 54 => ⟨S48, .i32⟩
  | 55 => ⟨S48, .i32⟩
  | 56 => ⟨S48x1, .i32⟩
  | 57 => ⟨S8x48x4096, .f32⟩
  | 58 => ⟨S8x4x12x64x64, .f32⟩
  | 59 => ⟨S8x4x64x12x64, .f32⟩
  | 60 => ⟨S4x1x12x1, .i1⟩
  | 61 => ⟨S1x64x1x64, .i1⟩
  | 62 => ⟨S4x64x12x64, .i1⟩
  | 63 => ⟨S4x64x12x64, .i1⟩
  | 64 => ⟨S4x64x12x64, .i1⟩
  | 65 => ⟨S1x4x64x12x64, .i1⟩
  | 66 => ⟨S_, .f32⟩
  | 67 => ⟨S_, .f32⟩
  | 68 => ⟨S8x4x64x12x64, .i1⟩
  | 69 => ⟨S8x4x64x12x64, .f32⟩
  | 70 => ⟨S8x4x64x12x64, .f32⟩
  | 71 => ⟨S8x256x768, .f32⟩
  | 72 => ⟨S4, .i32⟩
  | 73 => ⟨S4x1, .i32⟩
  | 74 => ⟨S_, .i32⟩
  | 75 => ⟨S4x1, .i32⟩
  | 76 => ⟨S4x1, .i32⟩
  | 77 => ⟨S12, .i32⟩
  | 78 => ⟨S1x12, .i32⟩
  | 79 => ⟨S_, .i32⟩
  | 80 => ⟨S1x12, .i32⟩
  | 81 => ⟨S1x12, .i32⟩
  | 82 => ⟨S_, .i32⟩
  | 83 => ⟨S4x1, .i32⟩
  | 84 => ⟨S4x1, .i32⟩
  | 85 => ⟨S_, .i32⟩
  | 86 => ⟨S_, .i32⟩
  | 87 => ⟨S_, .i32⟩
  | 88 => ⟨S4x1, .i32⟩
  | 89 => ⟨S4x1, .i32⟩
  | 90 => ⟨S_, .i32⟩
  | 91 => ⟨S4x1, .i32⟩
  | 92 => ⟨S4x1, .i32⟩
  | 93 => ⟨S4x12, .i32⟩
  | 94 => ⟨S4x12, .i32⟩
  | 95 => ⟨S4x12, .i1⟩
  | 96 => ⟨S_, .i32⟩
  | 97 => ⟨S4x1, .i32⟩
  | 98 => ⟨S4x1, .i32⟩
  | 99 => ⟨S4x12, .i32⟩
  | 100 => ⟨S4x12, .i32⟩
  | 101 => ⟨S4x12, .i1⟩
  | 102 => ⟨S4x12, .i1⟩
  | 103 => ⟨S4x12, .i32⟩
  | 104 => ⟨S4x12, .i32⟩
  | 105 => ⟨S4x12, .i32⟩
  | 106 => ⟨S_, .i32⟩
  | 107 => ⟨S4x12, .i32⟩
  | 108 => ⟨S4x12, .i32⟩
  | 109 => ⟨S_, .i32⟩
  | 110 => ⟨S4x12, .i32⟩
  | 111 => ⟨S4x12, .i32⟩
  | 112 => ⟨S_, .i32⟩
  | 113 => ⟨S_, .i32⟩
  | 114 => ⟨S_, .i32⟩
  | 115 => ⟨S4x12, .i32⟩
  | 116 => ⟨S4x12, .i32⟩
  | 117 => ⟨S_, .i32⟩
  | 118 => ⟨S4x12, .i32⟩
  | 119 => ⟨S4x12, .i32⟩
  | 120 => ⟨S48, .i32⟩
  | 121 => ⟨S_, .i32⟩
  | 122 => ⟨S48, .i32⟩
  | 123 => ⟨S48, .i1⟩
  | 124 => ⟨S_, .i32⟩
  | 125 => ⟨S48, .i32⟩
  | 126 => ⟨S48, .i32⟩
  | 127 => ⟨S48, .i32⟩
  | _ => ⟨S33792x512, .bf16⟩

abbrev hbmTy0_2 (i : Nat) : BufTy := match i % 128 with
  | 0 => ⟨S48x1, .i32⟩
  | 1 => ⟨S8x48x4096, .f32⟩
  | 2 => ⟨S8x4x12x64x64, .f32⟩
  | 3 => ⟨S8x4x64x12x64, .f32⟩
  | 4 => ⟨S4x1x12x1, .i1⟩
  | 5 => ⟨S1x64x1x64, .i1⟩
  | 6 => ⟨S4x64x12x64, .i1⟩
  | 7 => ⟨S4x64x12x64, .i1⟩
  | 8 => ⟨S4x64x12x64, .i1⟩
  | 9 => ⟨S1x4x64x12x64, .i1⟩
  | 10 => ⟨S_, .f32⟩
  | 11 => ⟨S_, .f32⟩
  | 12 => ⟨S8x4x64x12x64, .i1⟩
  | 13 => ⟨S8x4x64x12x64, .f32⟩
  | 14 => ⟨S8x4x64x12x64, .f32⟩
  | 15 => ⟨S8x256x768, .f32⟩
  | 16 => ⟨S1x8x256x768, .f32⟩
  | 17 => ⟨S1x8x256x768, .f32⟩
  | 18 => ⟨S1x8x256x768, .f32⟩
  | 19 => ⟨S3x8x256x768, .f32⟩
  | 20 => ⟨S32768x512, .bf16⟩
  | _ => ⟨S33792x512, .bf16⟩

abbrev hbmTy (i : Nat) : BufTy := match i / 128 with
  | 0 => hbmTy0_0 i
  | 1 => hbmTy0_1 i
  | 2 => hbmTy0_2 i
  | _ => ⟨S33792x512, .bf16⟩

abbrev bufTy : (tb : Table) → Fin (tcTables nBuf tb) → BufTy
  | .hbm, ⟨i, _⟩ => hbmTy i
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S1x2x256x768, .f32⟩
  | .local _ .vmem, ⟨19, _⟩ => ⟨S1x2x256x768, .f32⟩
  | .local _ .vmem, ⟨20, _⟩ => ⟨S256x128, .bf16⟩
  | .local _ .vmem, ⟨21, _⟩ => ⟨S256x128, .bf16⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_c_13 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_15 : Ref sig .tc := ⟨.hbm, 90, rfl⟩
abbrev main_v55 : Ref sig .tc := ⟨.hbm, 91, rfl⟩
abbrev main_v56 : Ref sig .tc := ⟨.hbm, 92, rfl⟩
abbrev main_c_16 : Ref sig .tc := ⟨.hbm, 93, rfl⟩
abbrev main_v57 : Ref sig .tc := ⟨.hbm, 94, rfl⟩
abbrev main_v58 : Ref sig .tc := ⟨.hbm, 95, rfl⟩
abbrev main_c_17 : Ref sig .tc := ⟨.hbm, 96, rfl⟩
abbrev main_c_18 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v59 : Ref sig .tc := ⟨.hbm, 103, rfl⟩
abbrev main_v60 : Ref sig .tc := ⟨.hbm, 104, rfl⟩
abbrev main_c_19 : Ref sig .tc := ⟨.hbm, 105, rfl⟩
abbrev main_v61 : Ref sig .tc := ⟨.hbm, 106, rfl⟩
abbrev main_v62 : Ref sig .tc := ⟨.hbm, 107, rfl⟩
abbrev main_c_20 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_c_21 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_22 : Ref sig .tc := ⟨.hbm, 135, rfl⟩
abbrev main_v84 : Ref sig .tc := ⟨.hbm, 136, rfl⟩
abbrev main_v85 : Ref sig .tc := ⟨.hbm, 137, rfl⟩
abbrev main_c_23 : Ref sig .tc := ⟨.hbm, 138, rfl⟩
abbrev main_v86 : Ref sig .tc := ⟨.hbm, 139, rfl⟩
abbrev main_v87 : Ref sig .tc := ⟨.hbm, 140, rfl⟩
abbrev main_c_24 : Ref sig .tc := ⟨.hbm, 141, rfl⟩
abbrev main_c_25 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_c_26 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_c_27 : Ref sig .tc := ⟨.hbm, 162, rfl⟩
abbrev main_v101 : Ref sig .tc := ⟨.hbm, 163, rfl⟩
abbrev main_v102 : Ref sig .tc := ⟨.hbm, 164, rfl⟩
abbrev main_c_28 : Ref sig .tc := ⟨.hbm, 165, rfl⟩
abbrev main_v103 : Ref sig .tc := ⟨.hbm, 166, rfl⟩
abbrev main_v104 : Ref sig .tc := ⟨.hbm, 167, rfl⟩
abbrev main_c_29 : Ref sig .tc := ⟨.hbm, 168, rfl⟩
abbrev main_c_30 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_v105 : Ref sig .tc := ⟨.hbm, 175, rfl⟩
abbrev main_v106 : Ref sig .tc := ⟨.hbm, 176, rfl⟩
abbrev main_c_31 : Ref sig .tc := ⟨.hbm, 177, rfl⟩
abbrev main_v107 : Ref sig .tc := ⟨.hbm, 178, rfl⟩
abbrev main_v108 : Ref sig .tc := ⟨.hbm, 179, rfl⟩
abbrev main_c_32 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_33 : Ref sig .tc := ⟨.hbm, 194, rfl⟩
abbrev main_call7_v0 : Ref sig .tc := ⟨.hbm, 195, rfl⟩
abbrev main_call7_v1 : Ref sig .tc := ⟨.hbm, 196, rfl⟩
abbrev main_call7_v2 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_c_34 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_c_35 : Ref sig .tc := ⟨.hbm, 207, rfl⟩
abbrev main_v130 : Ref sig .tc := ⟨.hbm, 208, rfl⟩
abbrev main_v131 : Ref sig .tc := ⟨.hbm, 209, rfl⟩
abbrev main_c_36 : Ref sig .tc := ⟨.hbm, 210, rfl⟩
abbrev main_v132 : Ref sig .tc := ⟨.hbm, 211, rfl⟩
abbrev main_v133 : Ref sig .tc := ⟨.hbm, 212, rfl⟩
abbrev main_c_37 : Ref sig .tc := ⟨.hbm, 213, rfl⟩
abbrev main_c_38 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_c_39 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_c_40 : Ref sig .tc := ⟨.hbm, 234, rfl⟩
abbrev main_v147 : Ref sig .tc := ⟨.hbm, 235, rfl⟩
abbrev main_v148 : Ref sig .tc := ⟨.hbm, 236, rfl⟩
abbrev main_c_41 : Ref sig .tc := ⟨.hbm, 237, rfl⟩
abbrev main_v149 : Ref sig .tc := ⟨.hbm, 238, rfl⟩
abbrev main_v150 : Ref sig .tc := ⟨.hbm, 239, rfl⟩
abbrev main_c_42 : Ref sig .tc := ⟨.hbm, 240, rfl⟩
abbrev main_c_43 : Ref sig .tc := ⟨.hbm, 241, rfl⟩
abbrev main_call9_v0 : Ref sig .tc := ⟨.hbm, 242, rfl⟩
abbrev main_call9_v1 : Ref sig .tc := ⟨.hbm, 243, rfl⟩
abbrev main_call9_v2 : Ref sig .tc := ⟨.hbm, 244, rfl⟩
abbrev main_call9_v3 : Ref sig .tc := ⟨.hbm, 245, rfl⟩
abbrev main_call9_v4 : Ref sig .tc := ⟨.hbm, 246, rfl⟩
abbrev main_v151 : Ref sig .tc := ⟨.hbm, 247, rfl⟩
abbrev main_v152 : Ref sig .tc := ⟨.hbm, 248, rfl⟩
abbrev main_c_44 : Ref sig .tc := ⟨.hbm, 249, rfl⟩
abbrev main_v153 : Ref sig .tc := ⟨.hbm, 250, rfl⟩
abbrev main_v154 : Ref sig .tc := ⟨.hbm, 251, rfl⟩
abbrev main_c_45 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_cst_46 : Ref sig .tc := ⟨.hbm, 266, rfl⟩
abbrev main_call10_v0 : Ref sig .tc := ⟨.hbm, 267, rfl⟩
abbrev main_call10_v1 : Ref sig .tc := ⟨.hbm, 268, rfl⟩
abbrev main_call10_v2 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 32, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c4_i32 : BitVec 32 := 4#32
  let v1 : BitVec 32 := Scalar.addi c4_i32 v0
  let v2 : BitVec 32 := Scalar.addi v1 arg1
  let c0_i32 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c0_i32_1 : BitVec 32 := 0#32
  let v7 : BitVec 32 := Scalar.addi v6 c0_i32_1
  let c0_i32_2 : BitVec 32 := 0#32
  ![v7.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c1_i32_1 : BitVec 32 := 1#32
  let v7 : BitVec 32 := Scalar.addi v6 c1_i32_1
  let c0_i32_2 : BitVec 32 := 0#32
  ![v7.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c2_i32 : BitVec 32 := 2#32
  let v7 : BitVec 32 := Scalar.addi v6 c2_i32
  let c0_i32_1 : BitVec 32 := 0#32
  ![v7.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c0_i32_1 : BitVec 32 := 0#32
  let v7 : BitVec 32 := Scalar.addi v6 c0_i32_1
  let c0_i32_2 : BitVec 32 := 0#32
  ![v7.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c1_i32_1 : BitVec 32 := 1#32
  let v7 : BitVec 32 := Scalar.addi v6 c1_i32_1
  let c0_i32_2 : BitVec 32 := 0#32
  ![v7.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let c29_i32 : BitVec 32 := 29#32
  let v2 : BitVec 32 := Scalar.maxsi c0_i32 v1
  let v3 : BitVec 32 := Scalar.minsi c29_i32 v2
  let c32_i32 : BitVec 32 := 32#32
  let v4 : BitVec 32 := Scalar.muli arg2 c32_i32
  let c4_i32 : BitVec 32 := 4#32
  let v5 : BitVec 32 := Scalar.addi c4_i32 v4
  let v6 : BitVec 32 := Scalar.addi v5 v3
  let c2_i32 : BitVec 32 := 2#32
  let v7 : BitVec 32 := Scalar.addi v6 c2_i32
  let c0_i32_1 : BitVec 32 := 0#32
  ![v7.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c31_i32 : BitVec 32 := 31#32
  let v1 : BitVec 1 := Scalar.cmpi .eq arg1 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let v1 : BitVec 32 := Scalar.addi v0 arg1
  let c0_i32 : BitVec 32 := 0#32
  ![v1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x2x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S33792x512 : Shape := ⟨2, ![33792, 512]⟩
abbrev S8x15x31 : Shape := ⟨3, ![8, 15, 31]⟩
abbrev S32768x512 : Shape := ⟨2, ![32768, 512]⟩
abbrev S4x8192x8x64 : Shape := ⟨4, ![4, 8192, 8, 64]⟩
abbrev S4x8x8192x64 : Shape := ⟨4, ![4, 8, 8192, 64]⟩
abbrev S1024x512 : Shape := ⟨2, ![1024, 512]⟩
abbrev S4x256x8x64 : Shape := ⟨4, ![4, 256, 8, 64]⟩
abbrev S4x8x256x64 : Shape := ⟨4, ![4, 8, 256, 64]⟩
abbrev S4x8x128x64x64 : Shape := ⟨5, ![4, 8, 128, 64, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S128x64x8x16x1 : Shape := ⟨5, ![128, 64, 8, 16, 1]⟩
abbrev S128x64x8x16x2 : Shape := ⟨5, ![128, 64, 8, 16, 2]⟩
abbrev S4x8x128x64x8x16x64 : Shape := ⟨7, ![4, 8, 128, 64, 8, 16, 64]⟩
abbrev S8x128x64x8x16 : Shape := ⟨5, ![8, 128, 64, 8, 16]⟩
abbrev S4x8x128x64x8x16 : Shape := ⟨6, ![4, 8, 128, 64, 8, 16]⟩
abbrev S1x8x128x64x8x16 : Shape := ⟨6, ![1, 8, 128, 64, 8, 16]⟩
abbrev S4x8x128x64x128 : Shape := ⟨5, ![4, 8, 128, 64, 128]⟩
abbrev S4x8x128x64x256 : Shape := ⟨5, ![4, 8, 128, 64, 256]⟩
abbrev S4x8x128x64x384 : Shape := ⟨5, ![4, 8, 128, 64, 384]⟩
abbrev S4x8x128x64 : Shape := ⟨4, ![4, 8, 128, 64]⟩
abbrev S4x8x128x64x1 : Shape := ⟨5, ![4, 8, 128, 64, 1]⟩

abbrev nBuf : Space → Nat
  | .hbm => 170
  | .vmem => 0
  | .smem => 0
  | _ => 0

abbrev hbmTy0_0 (i : Nat) : BufTy := match i % 128 with
  | 0 => ⟨S33792x512, .bf16⟩
  | 1 => ⟨S33792x512, .bf16⟩
  | 2 => ⟨S33792x512, .bf16⟩
  | 3 => ⟨S8x15x31, .f32⟩
  | 4 => ⟨S33792x512, .f32⟩
  | 5 => ⟨S33792x512, .f32⟩
  | 6 => ⟨S33792x512, .f32⟩
  | 7 => ⟨S32768x512, .f32⟩
  | 8 => ⟨S4x8192x8x64, .f32⟩
  | 9 => ⟨S4x8x8192x64, .f32⟩
  | 10 => ⟨S32768x512, .f32⟩
  | 11 => ⟨S4x8192x8x64, .f32⟩
  | 12 => ⟨S4x8x8192x64, .f32⟩
  | 13 => ⟨S32768x512, .f32⟩
  | 14 => ⟨S4x8192x8x64, .f32⟩
  | 15 => ⟨S4x8x8192x64, .f32⟩
  | 16 => ⟨S1024x512, .f32⟩
  | 17 => ⟨S4x256x8x64, .f32⟩
  | 18 => ⟨S4x8x256x64, .f32⟩
  | 19 => ⟨S1024x512, .f32⟩
  | 20 => ⟨S4x256x8x64, .f32⟩
  | 21 => ⟨S4x8x256x64, .f32⟩
  | 22 => ⟨S4x8x128x64x64, .f32⟩
  | 23 => ⟨S4x8x128x64x64, .f32⟩
  | 24 => ⟨S4x8x128x64x64, .f32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S64x1, .i32⟩
  | 38 => ⟨S16, .i32⟩
  | 39 => ⟨S1x16, .i32⟩
  | 40 => ⟨S64x16, .i32⟩
  | 41 => ⟨S64x16, .i32⟩
  | 42 => ⟨S64x16, .i32⟩
  | 43 => ⟨S64x1, .i32⟩
  | 44 => ⟨S64x16, .i32⟩
  | 45 => ⟨S64x16, .i32⟩
  | 46 => ⟨S_, .i32⟩
  | 47 => ⟨S64x16, .i32⟩
  | 48 => ⟨S64x16, .i32⟩
  | 49 => ⟨S128, .i32⟩
  | 50 => ⟨S_, .i32⟩
  | 51 => ⟨S128, .i32⟩
  | 52 => ⟨S128, .i32⟩
  | 53 => ⟨S_, .i32⟩
  | 54 => ⟨S_, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128x1, .i32⟩
  | 62 => ⟨S8, .i32⟩
  | 63 => ⟨S1x8, .i32⟩
  | 64 => ⟨S128x8, .i32⟩
  | 65 => ⟨S128x8, .i32⟩
  | 66 => ⟨S128x8, .i32⟩
  | 67 => ⟨S128x1, .i32⟩
  | 68 => ⟨S128x8, .i32⟩
  | 69 => ⟨S128x8, .i32⟩
  | 70 => ⟨S_, .i32⟩
  | 71 => ⟨S128x8, .i32⟩
  | 72 => ⟨S128x8, .i32⟩
  | 73 => ⟨S128x1x8x1, .i32⟩
  | 74 => ⟨S1x64x1x16, .i32⟩
  | 75 => ⟨S_, .i32⟩
  | 76 => ⟨S128x1x8x1, .i32⟩
  | 77 => ⟨S128x1x8x1, .i1⟩
  | 78 => ⟨S_, .i32⟩
  | 79 => ⟨S128x1x8x1, .i32⟩
  | 80 => ⟨S128x1x8x1, .i32⟩
  | 81 => ⟨S128x1x8x1, .i32⟩
  | 82 => ⟨S_, .i32⟩
  | 83 => ⟨S1x64x1x16, .i32⟩
  | 84 => ⟨S1x64x1x16, .i1⟩
  | 85 => ⟨S_, .i32⟩
  | 86 => ⟨S1x64x1x16, .i32⟩
  | 87 => ⟨S1x64x1x16, .i32⟩
  | 88 => ⟨S1x64x1x16, .i32⟩
  | 89 => ⟨S128x64x8x16, .i32⟩
  | 90 => ⟨S128x64x8x16, .i32⟩
  | 91 => ⟨S128x64x8x16x1, .i32⟩
  | 92 => ⟨S128x64x8x16x1, .i32⟩
  | 93 => ⟨S128x64x8x16x2, .i32⟩
  | 94 => ⟨S4x8x128x64x8x16x64, .f32⟩
  | 95 => ⟨S128x1x8x1, .i32⟩
  | 96 => ⟨S1x64x1x16, .i32⟩
  | 97 => ⟨S_, .i32⟩
  | 98 => ⟨S128x1x8x1, .i32⟩
  | 99 => ⟨S128x1x8x1, .i1⟩
  | 100 => ⟨S_, .i32⟩
  | 101 => ⟨S128x1x8x1, .i32⟩
  | 102 => ⟨S128x1x8x1, .i32⟩
  | 103 => ⟨S128x1x8x1, .i32⟩
  | 104 => ⟨S_, .i32⟩
  | 105 => ⟨S1x64x1x16, .i32⟩
  | 106 => ⟨S1x64x1x16, .i1⟩
  | 107 => ⟨S_, .i32⟩
  | 108 => ⟨S1x64x1x16, .i32⟩
  | 109 => ⟨S1x64x1x16, .i32⟩
  | 110 => ⟨S1x64x1x16, .i32⟩
  | 111 => ⟨S128x64x8x16, .i32⟩
  | 112 => ⟨S128x64x8x16, .i32⟩
  | 113 => ⟨S128x64x8x16x1, .i32⟩
  | 114 => ⟨S128x64x8x16x1, .i32⟩
  | 115 => ⟨S128x64x8x16x2, .i32⟩
  | 116 => ⟨S4x8x128x64x8x16x64, .f32⟩
  | 117 => ⟨S128x1x8x1, .i32⟩
  | 118 => ⟨S1x64x1x16, .i32⟩
  | 119 => ⟨S_, .i32⟩
  | 120 => ⟨S128x1x8x1, .i32⟩
  | 121 => ⟨S128x1x8x1, .i1⟩
  | 122 => ⟨S_, .i32⟩
  | 123 => ⟨S128x1x8x1, .i32⟩
  | 124 => ⟨S128x1x8x1, .i32⟩
  | 125 => ⟨S128x1x8x1, .i32⟩
  | 126 => ⟨S_, .i32⟩
  | 127 => ⟨S1x64x1x16, .i32⟩
  | _ => ⟨S33792x512, .bf16⟩

abbrev hbmTy0_1 (i : Nat) : BufTy := match i % 128 with
  | 0 => ⟨S1x64x1x16, .i1⟩
  | 1 => ⟨S_, .i32⟩
  | 2 => ⟨S1x64x1x16, .i32⟩
  | 3 => ⟨S1x64x1x16, .i32⟩
  | 4 => ⟨S1x64x1x16, .i32⟩
  | 5 => ⟨S128x64x8x16, .i32⟩
  | 6 => ⟨S128x64x8x16, .i32⟩
  | 7 => ⟨S128x64x8x16x1, .i32⟩
  | 8 => ⟨S128x64x8x16x1, .i32⟩
  | 9 => ⟨S128x64x8x16x2, .i32⟩
  | 10 => ⟨S8x128x64x8x16, .f32⟩
  | 11 => ⟨S4x8x128x64x8x16, .f32⟩
  | 12 => ⟨S1x8x128x64x8x16, .f32⟩
  | 13 => ⟨S4x8x128x64x8x16, .f32⟩
  | 14 => ⟨S4x8x128x64x8x16, .f32⟩
  | 15 => ⟨S4x8x128x64x128, .f32⟩
  | 16 => ⟨S4x8x128x64x256, .f32⟩
  | 17 => ⟨S4x8x128x64x384, .f32⟩
  | 18 => ⟨S_, .f32⟩
  | 19 => ⟨S4x8x128x64, .f32⟩
  | 20 => ⟨S_, .f32⟩
  | 21 => ⟨S4x8x128x64, .f32⟩
  | 22 => ⟨S4x8x128x64, .f32⟩
  | 23 => ⟨S4x8x128x64x1, .f32⟩
  | 24 => ⟨S4x8x128x64x384, .f32⟩
  | 25 => ⟨S4x8x128x64x384, .f32⟩
  | 26 => ⟨S4x8x128x64x384, .f32⟩
  | 27 => ⟨S_, .f32⟩
  | 28 => ⟨S4x8x128x64, .f32⟩
  | 29 => ⟨S4x8x128x64x1, .f32⟩
  | 30 => ⟨S4x8x128x64x384, .f32⟩
  | 31 => ⟨S4x8x128x64x384, .f32⟩
  | 32 => ⟨S4x8x128x64x128, .f32⟩
  | 33 => ⟨S4x8x128x64x8x16, .f32⟩
  | 34 => ⟨S4x8x128x64x256, .f32⟩
  | 35 => ⟨S4x8x128x64x64, .f32⟩
  | 36 => ⟨S4x8x128x64x64, .f32⟩
  | 37 => ⟨S4x8x128x64x64, .f32⟩
  | 38 => ⟨S4x8x8192x64, .f32⟩
  | 39 => ⟨S4x8192x8x64, .f32⟩
  | 40 => ⟨S32768x512, .f32⟩
  | 41 => ⟨S32768x512, .bf16⟩
  | _ => ⟨S33792x512, .bf16⟩

abbrev hbmTy (i : Nat) : BufTy := match i / 128 with
  | 0 => hbmTy0_0 i
  | 1 => hbmTy0_1 i
  | _ => ⟨S33792x512, .bf16⟩

abbrev bufTy : (tb : Table) → Fin (tcTables nBuf tb) → BufTy
  | .hbm, ⟨i, _⟩ => hbmTy i
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_c_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_7 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_11 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_c_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_15 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_17 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_20 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩

abbrev nD : Nat := 1
abbrev τ : Topo := Topo.v7x

variable {F : FTy → Type} [FloatOps F]
-- ==== EvenProj.lean ====
abbrev S33792x1024 : Shape := ⟨2, ![33792, 1024]⟩
abbrev S8x1x1024 : Shape := ⟨3, ![8, 1, 1024]⟩
abbrev S1024x4096 : Shape := ⟨2, ![1024, 4096]⟩
abbrev S33792x512 : Shape := ⟨2, ![33792, 512]⟩
abbrev S512x1024 : Shape := ⟨2, ![512, 1024]⟩
abbrev S1x1x1024 : Shape := ⟨3, ![1, 1, 1024]⟩
abbrev S512x512 : Shape := ⟨2, ![512, 512]⟩
abbrev S1x1024 : Shape := ⟨2, ![1, 1024]⟩
abbrev S1024x512 : Shape := ⟨2, ![1024, 512]⟩

abbrev nBuf : Space → Nat
  | .hbm => 13
  | .vmem => 23
  | .smem => 0
  | _ => 0

abbrev bufTy : (tb : Table) → Fin (tcTables nBuf tb) → BufTy
  | .hbm, ⟨0, _⟩ => ⟨S33792x1024, .f32⟩
  | .hbm, ⟨1, _⟩ => ⟨S8x1x1024, .f32⟩
  | .hbm, ⟨2, _⟩ => ⟨S8x1x1024, .f32⟩
  | .hbm, ⟨3, _⟩ => ⟨S1024x4096, .f32⟩
  | .hbm, ⟨4, _⟩ => ⟨S1024x4096, .bf16⟩
  | .hbm, ⟨5, _⟩ => ⟨S33792x512, .bf16⟩
  | .hbm, ⟨6, _⟩ => ⟨S33792x512, .bf16⟩
  | .hbm, ⟨7, _⟩ => ⟨S33792x512, .bf16⟩
  | .hbm, ⟨8, _⟩ => ⟨S33792x512, .f32⟩
  | .hbm, ⟨9, _⟩ => ⟨S33792x512, .f32⟩
  | .hbm, ⟨10, _⟩ => ⟨S33792x512, .f32⟩
  | .hbm, ⟨11, _⟩ => ⟨S33792x512, .f32⟩
  | .hbm, ⟨12, _⟩ => ⟨S33792x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let c1024_i32_0 : BitVec 32 := 1024#32
  let v2 : BitVec 32 := Scalar.subi v0 c1024_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let c1024_i32_0 : BitVec 32 := 1024#32
  let v2 : BitVec 32 := Scalar.subi v0 c1024_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvenProjRefIdeal.lean ====
abbrev S33792x1024 : Shape := ⟨2, ![33792, 1024]⟩
abbrev S8x1x1024 : Shape := ⟨3, ![8, 1, 1024]⟩
abbrev S1024x4096 : Shape := ⟨2, ![1024, 4096]⟩
abbrev S1024x1024 : Shape := ⟨2, ![1024, 1024]⟩
abbrev S4x256x1024 : Shape := ⟨3, ![4, 256, 1024]⟩
abbrev S32768x1024 : Shape := ⟨2, ![32768, 1024]⟩
abbrev S4x8192x1024 : Shape := ⟨3, ![4, 8192, 1024]⟩
abbrev S4x1x1024 : Shape := ⟨3, ![4, 1, 1024]⟩
abbrev S_ : Shape := ⟨0, ![]⟩
abbrev S1x1x1024 : Shape := ⟨3, ![1, 1, 1024]⟩
abbrev S1024 : Shape := ⟨1, ![1024]⟩
abbrev S33792x4096 : Shape := ⟨2, ![33792, 4096]⟩
abbrev S33792x512 : Shape := ⟨2, ![33792, 512]⟩

abbrev nBuf : Space → Nat
  | .hbm => 60
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x1x1024, .f32⟩
  | .hbm, ⟨2, _⟩ => ⟨S8x1x1024, .f32⟩
  | .hbm, ⟨3, _⟩ => ⟨S1024x4096, .f32⟩
  | .hbm, ⟨4, _⟩ => ⟨S1024x1024, .f32⟩
  | .hbm, ⟨5, _⟩ => ⟨S4x256x1024, .f32⟩
  | .hbm, ⟨6, _⟩ => ⟨S32768x1024, .f32⟩
  | .hbm, ⟨7, _⟩ => ⟨S4x8192x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S1024x1024, .f32⟩
  | .hbm, ⟨31, _⟩ => ⟨S32768x1024, .f32⟩
  | .hbm, ⟨32, _⟩ => ⟨S33792x1024, .f32⟩
  | .hbm, ⟨33, _⟩ => ⟨S33792x4096, .f32⟩
  | .hbm, ⟨34, _⟩ => ⟨S33792x512, .f32⟩
  | .hbm, ⟨35, _⟩ => ⟨S33792x512, .f32⟩
  | .hbm, ⟨36, _⟩ => ⟨S33792x512, .f32⟩
  | .hbm, ⟨37, _⟩ => ⟨S33792x512, .f32⟩
  | .hbm, ⟨38, _⟩ => ⟨S33792x512, .f32⟩
  | .hbm, ⟨39, _⟩ => ⟨S33792x512, .f32⟩
  | .hbm, ⟨40, _⟩ => ⟨S33792x512, .f32⟩
  | .hbm, ⟨41, _⟩ => ⟨S33792x512, .f32⟩
  | .hbm, ⟨42, _⟩ => ⟨S_, .f32⟩
  | .hbm, ⟨43, _⟩ => ⟨S33792x512, .f32⟩
  | .hbm, ⟨44, _⟩ => ⟨S33792x512, .f32⟩
  | .hbm, ⟨45, _⟩ => ⟨S33792x512, .bf16⟩
  | .hbm, ⟨46, _⟩ => ⟨S33792x512, .bf16⟩
  | .hbm, ⟨47, _⟩ => ⟨S33792x512, .bf16⟩
  | .hbm, ⟨48, _⟩ => ⟨S33792x512, .f32⟩
  | .hbm, ⟨49, _⟩ => ⟨S33792x512, .f32⟩
  | .hbm, ⟨50, _⟩ => ⟨S_, .f32⟩
  | .hbm, ⟨51, _⟩ => ⟨S33792x512, .f32⟩
  | .hbm, ⟨52, _⟩ => ⟨S33792x512, .f32⟩
  | .hbm, ⟨53, _⟩ => ⟨S_, .f32⟩
  | .hbm, ⟨54, _⟩ => ⟨S33792x512, .f32⟩
  | .hbm, ⟨55, _⟩ => ⟨S33792x512, .f32⟩
  | .hbm, ⟨56, _⟩ => ⟨S33792x512, .f32⟩
  | .hbm, ⟨57, _⟩ => ⟨S_, .f32⟩
  | .hbm, ⟨58, _⟩ => ⟨S33792x512, .f32⟩
  | .hbm, ⟨59, _⟩ => ⟨S33792x512, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== OddProj.lean ====
abbrev S33792x1024 : Shape := ⟨2, ![33792, 1024]⟩
abbrev S8x1x1024 : Shape := ⟨3, ![8, 1, 1024]⟩
abbrev S1024x2048 : Shape := ⟨2, ![1024, 2048]⟩
abbrev S512x1024 : Shape := ⟨2, ![512, 1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S33792x1024, .f32⟩
  | .hbm, ⟨1, _⟩ => ⟨S8x1x1024, .f32⟩
  | .hbm, ⟨2, _⟩ => ⟨S8x1x1024, .f32⟩
  | .hbm, ⟨3, _⟩ => ⟨S1024x2048, .f32⟩
  | .hbm, ⟨4, _⟩ => ⟨S1024x2048, .bf16⟩
  | .hbm, ⟨5, _⟩ => ⟨S33792x1024, .f32⟩
  | .hbm, ⟨6, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let c1024_i32_0 : BitVec 32 := 1024#32
  let v2 : BitVec 32 := Scalar.subi v0 c1024_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let c1024_i32_0 : BitVec 32 := 1024#32
  let v2 : BitVec 32 := Scalar.subi v0 c1024_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 c4_i32 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddProjRefIdeal.lean ====
abbrev S33792x1024 : Shape := ⟨2, ![33792, 1024]⟩
abbrev S8x1x1024 : Shape := ⟨3, ![8, 1, 1024]⟩
abbrev S1024x2048 : Shape := ⟨2, ![1024, 2048]⟩
abbrev S1024x1024 : Shape := ⟨2, ![1024, 1024]⟩
abbrev S4x256x1024 : Shape := ⟨3, ![4, 256, 1024]⟩
abbrev S32768x1024 : Shape := ⟨2, ![32768, 1024]⟩
abbrev S4x8192x1024 : Shape := ⟨3, ![4, 8192, 1024]⟩
abbrev S4x1x1024 : Shape := ⟨3, ![4, 1, 1024]⟩
abbrev S_ : Shape := ⟨0, ![]⟩
abbrev S1x1x1024 : Shape := ⟨3, ![1, 1, 1024]⟩
abbrev S1024 : Shape := ⟨1, ![1024]⟩
abbrev S33792x2048 : Shape := ⟨2, ![33792, 2048]⟩

abbrev nBuf : Space → Nat
  | .hbm => 36
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S8x1x1024, .f32⟩
  | .hbm, ⟨2, _⟩ => ⟨S8x1x1024, .f32⟩
  | .hbm, ⟨3, _⟩ => ⟨S1024x2048, .f32⟩
  | .hbm, ⟨4, _⟩ => ⟨S1024x1024, .f32⟩
  | .hbm, ⟨5, _⟩ => ⟨S4x256x1024, .f32⟩
  | .hbm, ⟨6, _⟩ => ⟨S32768x1024, .f32⟩
  | .hbm, ⟨7, _⟩ => ⟨S4x8192x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1x1024, .f32⟩
  | .hbm, ⟨23, _⟩ => ⟨S4x256x1024, .f32⟩
  | .hbm, ⟨24, _⟩ => ⟨S4x256x1024, .f32⟩
  | .hbm, ⟨25, _⟩ => ⟨S1x1x1024, .f32⟩
  | .hbm, ⟨26, _⟩ => ⟨S1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S1024x1024, .f32⟩
  | .hbm, ⟨31, _⟩ => ⟨S32768x1024, .f32⟩
  | .hbm, ⟨32, _⟩ => ⟨S33792x1024, .f32⟩
  | .hbm, ⟨33, _⟩ => ⟨S33792x2048, .f32⟩
  | .hbm, ⟨34, _⟩ => ⟨S33792x1024, .f32⟩
  | .hbm, ⟨35, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Experts.lean ====
abbrev S329728x512 : Shape := ⟨2, ![329728, 512]⟩
abbrev S322 : Shape := ⟨1, ![322]⟩
abbrev S4x64x1024x256 : Shape := ⟨4, ![4, 64, 1024, 256]⟩
abbrev S4x64x256x1024 : Shape := ⟨4, ![4, 64, 256, 1024]⟩
abbrev S329728x1024 : Shape := ⟨2, ![329728, 1024]⟩
abbrev S1024x512 : Shape := ⟨2, ![1024, 512]⟩
abbrev S1x1x1024x256 : Shape := ⟨4, ![1, 1, 1024, 256]⟩
abbrev S1 : Shape := ⟨1, ![1]⟩
abbrev S1x1x256x1024 : Shape := ⟨4, ![1, 1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S329728x512, .i32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S329728x1024, .bf16⟩
  | .local _ .vmem, ⟨0, _⟩ => ⟨S1024x512, .i32⟩
  | .local _ .vmem, ⟨1, _⟩ => ⟨S1024x512, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1024x1024, .bf16⟩
  | .local _ .vmem, ⟨9, _⟩ => ⟨S1024x1024, .bf16⟩
  | .local _ .smem, ⟨0, _⟩ => ⟨S322, .i32⟩
  | .local _ .smem, ⟨1, _⟩ => ⟨S322, .i32⟩
  | _, _ => ⟨S329728x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![322], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S322.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S322) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S329728x512 : Shape := ⟨2, ![329728, 512]⟩
abbrev S322 : Shape := ⟨1, ![322]⟩
abbrev S4x64x1024x256 : Shape := ⟨4, ![4, 64, 1024, 256]⟩
abbrev S4x64x256x1024 : Shape := ⟨4, ![4, 64, 256, 1024]⟩
abbrev S329728x512x2 : Shape := ⟨3, ![329728, 512, 2]⟩
abbrev S329728x2x512 : Shape := ⟨3, ![329728, 2, 512]⟩
abbrev S322x1024x1024 : Shape := ⟨3, ![322, 1024, 1024]⟩
abbrev S1024 : Shape := ⟨1, ![1024]⟩
abbrev S1x1024x1 : Shape := ⟨3, ![1, 1024, 1]⟩
abbrev S322x1x1 : Shape := ⟨3, ![322, 1, 1]⟩
abbrev S322x1024x1 : Shape := ⟨3, ![322, 1024, 1]⟩
abbrev S_ : Shape := ⟨0, ![]⟩
abbrev S1x64x1024x256 : Shape := ⟨4, ![1, 64, 1024, 256]⟩
abbrev S64x1024x256 : Shape := ⟨3, ![64, 1024, 256]⟩
abbrev S322x1 : Shape := ⟨2, ![322, 1]⟩
abbrev S322x1024x256 : Shape := ⟨3, ![322, 1024, 256]⟩
abbrev S1x64x256x1024 : Shape := ⟨4, ![1, 64, 256, 1024]⟩
abbrev S64x256x1024 : Shape := ⟨3, ![64, 256, 1024]⟩
abbrev S322x256x1024 : Shape := ⟨3, ![322, 256, 1024]⟩
abbrev S329728x1024 : Shape := ⟨2, ![329728, 1024]⟩

abbrev nBuf : Space → Nat
  | .hbm => 69
  | .vmem => 0
  | .smem => 0
  | _ => 0

abbrev bufTy : (tb : Table) → Fin (tcTables nBuf tb) → BufTy
  | .hbm, ⟨0, _⟩ => ⟨S329728x512, .i32⟩
  | .hbm, ⟨1, _⟩ => ⟨S322, .i32⟩
  | .hbm, ⟨2, _⟩ => ⟨S322, .i32⟩
  | .hbm, ⟨3, _⟩ => ⟨S4x64x1024x256, .f32⟩
  | .hbm, ⟨4, _⟩ => ⟨S4x64x1024x256, .f32⟩
  | .hbm, ⟨5, _⟩ => ⟨S4x64x256x1024, .f32⟩
  | .hbm, ⟨6, _⟩ => ⟨S329728x512x2, .bf16⟩
  | .hbm, ⟨7, _⟩ => ⟨S329728x2x512, .bf16⟩
  | .hbm, ⟨8, _⟩ => ⟨S329728x2x512, .f32⟩
  | .hbm, ⟨9, _⟩ => ⟨S322x1024x1024, .f32⟩
  | .hbm, ⟨10, _⟩ => ⟨S1024, .i32⟩
  | .hbm, ⟨11, _⟩ => ⟨S1x1024x1, .i32⟩
  | .hbm, ⟨12, _⟩ => ⟨S322x1x1, .i32⟩
  | .hbm, ⟨13, _⟩ => ⟨S322x1024x1, .i32⟩
  | .hbm, ⟨14, _⟩ => ⟨S322x1024x1, .i32⟩
  | .hbm, ⟨15, _⟩ => ⟨S322x1024x1, .i1⟩
  | .hbm, ⟨16, _⟩ => ⟨S_, .f32⟩
  | .hbm, ⟨17, _⟩ => ⟨S_, .f32⟩
  | .hbm, ⟨18, _⟩ => ⟨S322x1024x1024, .i1⟩
  | .hbm, ⟨19, _⟩ => ⟨S322x1024x1024, .f32⟩
  | .hbm, ⟨20, _⟩ => ⟨S322x1024x1024, .f32⟩
  | .hbm, ⟨21, _⟩ => ⟨S1x64x1024x256, .f32⟩
  | .hbm, ⟨22, _⟩ => ⟨S64x1024x256, .f32⟩
  | .hbm, ⟨23, _⟩ => ⟨S_, .i32⟩
  | .hbm, ⟨24, _⟩ => ⟨S322, .i32⟩
  | .hbm, ⟨25, _⟩ => ⟨S322, .i1⟩
  | .hbm, ⟨26, _⟩ => ⟨S_, .i32⟩
  | .hbm, ⟨27, _⟩ => ⟨S322, .i32⟩
  | .hbm, ⟨28, _⟩ => ⟨S322, .i32⟩
  | .hbm, ⟨29, _⟩ => ⟨S322, .i32⟩
  | .hbm, ⟨30, _⟩ => ⟨S322x1, .i32⟩
  | .hbm, ⟨31, _⟩ => ⟨S322x1024x256, .f32⟩
  | .hbm, ⟨32, _⟩ => ⟨S1x64x1024x256, .f32⟩
  | .hbm, ⟨33, _⟩ => ⟨S64x1024x256, .f32⟩
  | .hbm, ⟨34, _⟩ => ⟨S_, .i32⟩
  | .hbm, ⟨35, _⟩ => ⟨S322, .i32⟩
  | .hbm, ⟨36, _⟩ => ⟨S322, .i1⟩
  | .hbm, ⟨37, _⟩ => ⟨S_, .i32⟩
  | .hbm, ⟨38, _⟩ => ⟨S322, .i32⟩
  | .hbm, ⟨39, _⟩ => ⟨S322, .i32⟩
  | .hbm, ⟨40, _⟩ => ⟨S322, .i32⟩
  | .hbm, ⟨41, _⟩ => ⟨S322x1, .i32⟩
  | .hbm, ⟨42, _⟩ => ⟨S322x1024x256, .f32⟩
  | .hbm, ⟨43, _⟩ => ⟨S1x64x256x1024, .f32⟩
  | .hbm, ⟨44, _⟩ => ⟨S64x256x1024, .f32⟩
  | .hbm, ⟨45, _⟩ => ⟨S_, .i32⟩
  | .hbm, ⟨46, _⟩ => ⟨S322, .i32⟩
  | .hbm, ⟨47, _⟩ => ⟨S322, .i1⟩
  | .hbm, ⟨48, _⟩ => ⟨S_, .i32⟩
  | .hbm, ⟨49, _⟩ => ⟨S322, .i32⟩
  | .hbm, ⟨50, _⟩ => ⟨S322, .i32⟩
  | .hbm, ⟨51, _⟩ => ⟨S322, .i32⟩
  | .hbm, ⟨52, _⟩ => ⟨S322x1, .i32⟩
  | .hbm, ⟨53, _⟩ => ⟨S322x256x1024, .f32⟩
  | .hbm, ⟨54, _⟩ => ⟨S322x1024x256, .f32⟩
  | .hbm, ⟨55, _⟩ => ⟨S322x1024x256, .f32⟩
  | .hbm, ⟨56, _⟩ => ⟨S322x1024x256, .f32⟩
  | .hbm, ⟨57, _⟩ => ⟨S_, .f32⟩
  | .hbm, ⟨58, _⟩ => ⟨S322x1024x256, .f32⟩
  | .hbm, ⟨59, _⟩ => ⟨S322x1024x256, .f32⟩
  | .hbm, ⟨60, _⟩ => ⟨S_, .f32⟩
  | .hbm, ⟨61, _⟩ => ⟨S322x1024x256, .f32⟩
  | .hbm, ⟨62, _⟩ => ⟨S322x1024x256, .f32⟩
  | .hbm, ⟨63, _⟩ => ⟨S322x1024x256, .f32⟩
  | .hbm, ⟨64, _⟩ => ⟨S322x1024x256, .f32⟩
  | .hbm, ⟨65, _⟩ => ⟨S322x1024x256, .f32⟩
  | .hbm, ⟨66, _⟩ => ⟨S322x1024x1024, .f32⟩
  | .hbm, ⟨67, _⟩ => ⟨S322x1024x1024, .bf16⟩
  | .hbm, ⟨68, _⟩ => ⟨S329728x1024, .bf16⟩
  | _, _ => ⟨S329728x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.Soft.lean ====
/- The mathematics of the masked softmax, over the extended reals: a softmax over a long row whose masked scores are `⊥`,
   divided once at the end, against a softmax over the window alone whose every weight is divided. -/
module

public import Idealize.ShloMosaic.Lib.Pointwise

@[expose] public section

noncomputable section

namespace Cert.Soft

open Idealize.ShloMosaic

/-- A score that is a real number. -/
def Fin' (x : EReal) : Prop := ∃ r : ℝ, x = r

/-- The extended real of a sum of real numbers is the sum of the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem fin_sum {ι : Type} (s : Finset ι) (f : ι → EReal) (h : ∀ i, Fin' (f i)) : Fin' (∑ i ∈ s, f i) := by
  choose g hg using h
  refine ⟨∑ i ∈ s, g i, ?_⟩
  rw [coe_sum']
  exact Finset.sum_congr rfl fun i _ => hg i

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

/-- The exponential of a difference of real numbers is a positive real number. -/
theorem exp_sub_fin {x y : EReal} (hx : Fin' x) (hy : Fin' y) : ∃ r : ℝ, 0 < r ∧ Ideal.exp (x - y) = r := by
  obtain ⟨a, rfl⟩ := hx
  obtain ⟨b, rfl⟩ := hy
  exact ⟨Real.exp (a - b), Real.exp_pos _, by rw [← EReal.coe_sub]; rfl⟩

/-- A sum times a nonnegative real number is the sum of the products, whatever the summands are. -/
theorem sum_mul_fin {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The largest of finitely many real numbers, among at least one. -/
theorem fin_sup {ι : Type} (s : Finset ι) (hs : s.Nonempty) (f : ι → EReal) (h : ∀ i ∈ s, f i ≠ ⊤) (i0 : ι) (hi : i0 ∈ s)
    (h0 : Fin' (f i0)) : Fin' (s.sup f) := by
  obtain ⟨a, ha⟩ := h0
  have hb : s.sup f ≠ ⊥ := by
    intro e
    have := Finset.le_sup (f := f) hi
    rw [e, ha] at this
    exact EReal.coe_ne_bot a (le_bot_iff.mp this)
  have ht : s.sup f ≠ ⊤ := by
    have := (Finset.sup_lt_iff (f := f) (s := s) (a := ⊤) (by exact bot_lt_top)).mpr fun i hi => lt_top_iff_ne_top.mpr (h i hi)
    exact this.ne
  exact ⟨(s.sup f).toReal, (EReal.coe_toReal ht hb).symm⟩

/-- What the masked row computes. -/
def masked {J K : Type} [Fintype J] [Fintype K] (S : J → EReal) (C : K → EReal) (vl : J → EReal) (vc : K → EReal) : EReal :=
  Ideal.div ((∑ k, Ideal.exp (C k - max (Finset.univ.sup S) (Finset.univ.sup C)) * vc k)
      + ∑ j, Ideal.exp (S j - max (Finset.univ.sup S) (Finset.univ.sup C)) * vl j)
    ((∑ j, Ideal.exp (S j - max (Finset.univ.sup S) (Finset.univ.sup C)))
      + ∑ k, Ideal.exp (C k - max (Finset.univ.sup S) (Finset.univ.sup C)))

/-- What the window's softmax computes. -/
def windowed {X K : Type} [Fintype X] [Fintype K] (S : X → EReal) (C : K → EReal) (vl : X → EReal) (vc : K → EReal) : EReal :=
  (∑ x, Ideal.div (Ideal.exp (S x - max (Finset.univ.sup S) (Finset.univ.sup C)))
      ((∑ x, Ideal.exp (S x - max (Finset.univ.sup S) (Finset.univ.sup C)))
        + ∑ k, Ideal.exp (C k - max (Finset.univ.sup S) (Finset.univ.sup C))) * vl x)
    + ∑ k, Ideal.div (Ideal.exp (C k - max (Finset.univ.sup S) (Finset.univ.sup C)))
      ((∑ x, Ideal.exp (S x - max (Finset.univ.sup S) (Finset.univ.sup C)))
        + ∑ k, Ideal.exp (C k - max (Finset.univ.sup S) (Finset.univ.sup C))) * vc k

/-- THE LAW: with every window score and every context score a real number, every other score of the row `⊥`, and the
    window laid into the row by an injection, the two agree, whatever the values are. -/
theorem masked_eq_windowed {J K X : Type} [Fintype J] [Fintype K] [Fintype X] [Nonempty K] (S : J → EReal) (C : K → EReal)
    (vl : J → EReal) (vc : K → EReal) (e : X → J) (he : Function.Injective e) (hS : ∀ x, Fin' (S (e x)))
    (hC : ∀ k, Fin' (C k)) (hbot : ∀ j, j ∉ Set.range e → S j = ⊥) :
    masked S C vl vc = windowed (fun x => S (e x)) C (fun x => vl (e x)) vc := by
  have hsup : Finset.univ.sup S = Finset.univ.sup fun x => S (e x) := by
    apply le_antisymm
    · refine Finset.sup_le fun j _ => ?_
      by_cases hj : j ∈ Set.range e
      · obtain ⟨x, rfl⟩ := hj
        exact Finset.le_sup (f := fun x => S (e x)) (Finset.mem_univ x)
      · rw [hbot j hj]; exact bot_le
    · exact Finset.sup_le fun x _ => Finset.le_sup (f := S) (Finset.mem_univ (e x))
  unfold masked windowed
  rw [hsup]
  obtain ⟨k0⟩ := ‹Nonempty K›
  generalize hM : max (Finset.univ.sup fun x => S (e x)) (Finset.univ.sup C) = M
  have hMf : Fin' M := by
    rw [← hM]
    have h1 : Fin' (Finset.univ.sup C) := fin_sup _ ⟨k0, Finset.mem_univ _⟩ _
      (fun i _ => by obtain ⟨a, h⟩ := hC i; rw [h]; exact EReal.coe_ne_top a) k0 (Finset.mem_univ _) (hC k0)
    rcases le_total (Finset.univ.sup fun x => S (e x)) (Finset.univ.sup C) with h | h
    · rw [max_eq_right h]; exact h1
    · rw [max_eq_left h]
      obtain ⟨a, ha⟩ := h1
      have hb : (Finset.univ.sup fun x => S (e x)) ≠ ⊥ := fun e => by
        rw [e, ha] at h; exact EReal.coe_ne_bot a (le_bot_iff.mp h)
      have ht : (Finset.univ.sup fun x => S (e x)) ≠ ⊤ :=
        ((Finset.sup_lt_iff (bot_lt_top)).mpr fun i _ => lt_top_iff_ne_top.mpr
          (by obtain ⟨b, hb⟩ := hS i; rw [hb]; exact EReal.coe_ne_top b)).ne
      exact ⟨_, (EReal.coe_toReal ht hb).symm⟩
  have hz : ∀ j, j ∉ Set.range e → Ideal.exp (S j - M) = 0 := fun j hj => by
    rw [hbot j hj, sub_eq_add_neg, EReal.bot_add]; rfl
  have hden : ∑ j, Ideal.exp (S j - M) = ∑ x, Ideal.exp (S (e x) - M) :=
    (Fintype.sum_of_injective e he _ _ hz fun _ => rfl).symm
  have hnum : ∑ j, Ideal.exp (S j - M) * vl j = ∑ x, Ideal.exp (S (e x) - M) * vl (e x) :=
    (Fintype.sum_of_injective e he _ _ (fun j hj => by rw [hz j hj, zero_mul]) fun _ => rfl).symm
  rw [hden, hnum]
  choose p hp hpe using fun x => exp_sub_fin (hS x) hMf
  choose q hq hqe using fun k => exp_sub_fin (hC k) hMf
  have hD : (∑ x, Ideal.exp (S (e x) - M)) + ∑ k, Ideal.exp (C k - M) = ((∑ x, p x + ∑ k, q k : ℝ) : EReal) := by
    rw [EReal.coe_add, coe_sum', coe_sum']
    simp only [hpe, hqe]
  have hpos : 0 < ∑ x, p x + ∑ k, q k :=
    add_pos_of_nonneg_of_pos (Finset.sum_nonneg fun x _ => (hp x).le) (Finset.sum_pos (fun k _ => hq k) ⟨k0, Finset.mem_univ _⟩)
  rw [hD]
  generalize ∑ x, p x + ∑ k, q k = D at hpos
  simp only [Ideal.div_coe hpos.ne']
  have hr : 0 ≤ 1 / D := (one_div_pos.mpr hpos).le
  rw [EReal.right_distrib_of_nonneg_of_ne_top (EReal.coe_nonneg.mpr hr) (EReal.coe_ne_top _), sum_mul_fin _ _ _ hr,
    sum_mul_fin _ _ _ hr, add_comm]
  refine congrArg₂ (· + ·) (Finset.sum_congr rfl fun x _ => ?_) (Finset.sum_congr rfl fun k _ => ?_) <;>
    exact mul_right_comm _ _ _

end Cert.Soft

end
-- ==== Proof.Body.lean ====
/- What the kernel's body stores at one lane of one query row, as the masked softmax of that row's scores. -/
module

public import proofs.«01_k».proof.Proof.Gen.KernelIdeal.Skeleton
public import proofs.«01_k».proof.Proof.Soft
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Cert.Soft

/-- Three blocks of 256 rows, one below the other. -/
def stack (k1 k2 k3 : FVec Ideal S256x128 .bf16) (j : Fin 768) (l : Fin 128) : EReal :=
  if h : (j : ℕ) < 256 then k1 (ix2 ⟨j, h⟩ l)
  else if h' : (j : ℕ) - 256 < 256 then k2 (ix2 ⟨j - 256, h'⟩ l)
  else k3 (ix2 ⟨j - 256 - 256, by omega⟩ l)

/-- The lane of dimension `d` of the pair's head `h`. -/
def lane (h : Fin 2) (d : Fin 64) : Fin 128 := ⟨64 * h + d, by omega⟩

/-- The score of a query row against one of the 768 latent keys, without the bias. -/
def loc (q k1 k2 k3 : FVec Ideal S256x128 .bf16) (h : Fin 2) (y : Fin 256) (j : Fin 768) : EReal :=
  ∑ d : Fin 64, q (ix2 y (lane h d)) * stack k1 k2 k3 j (lane h d)

/-- The score of a query row against one of the 256 context keys. -/
def ctx (q kc : FVec Ideal S256x128 .bf16) (h : Fin 2) (y : Fin 256) (j : Fin 256) : EReal :=
  ∑ d : Fin 64, q (ix2 y (lane h d)) * kc (ix2 j (lane h d))

/-- A sum over all lanes whose other head's terms are zero is the sum over the head's own lanes. -/
theorem sum_lane (h : Fin 2) (f g : Fin 128 → EReal) (h0 : ∀ l : Fin 128, ¬ (l : ℕ) / 64 = h → f l = 0)
    (h1 : ∀ l : Fin 128, (l : ℕ) / 64 = h → f l = g l) : ∑ l, f l = ∑ d, g (lane h d) := by
  symm
  refine Fintype.sum_of_injective (lane h) (fun a b e => ?_) _ _ (fun l hl => h0 l fun e => hl ⟨⟨(l : ℕ) % 64, by omega⟩, ?_⟩)
    fun d => (h1 _ (by show (64 * (h : ℕ) + d) / 64 = h; omega)).symm
  · have := congrArg Fin.val e
    simp only [lane] at this
    exact Fin.ext (by omega)
  · exact Fin.ext (by show 64 * (h : ℕ) + (l : ℕ) % 64 = l; omega)

theorem low (l : Fin 128) : IntOp.cmpi CmpIPredicate.slt (BitVec.ofNat 32 ↑l) 64#32 = if (l : ℕ) / 64 = 0 then 1#1 else 0#1 := by
  revert l; decide

theorem high (l : Fin 128) : IntOp.xori (IntOp.cmpi CmpIPredicate.slt (BitVec.ofNat 32 ↑l) 64#32) 1#1
    = if (l : ℕ) / 64 = 1 then 1#1 else 0#1 := by
  revert l; decide

theorem sum_low (f : Fin 128 → EReal) :
    ∑ l : Fin 128, Scalar.select (IntOp.cmpi CmpIPredicate.slt (BitVec.ofNat 32 ↑l) 64#32) (f l) 0 = ∑ d, f (lane 0 d) :=
  sum_lane 0 _ f (fun l hl => by rw [low, if_neg (show ¬ (l : ℕ) / 64 = 0 from hl)]; rfl)
    fun l hl => by rw [low, if_pos (show (l : ℕ) / 64 = 0 from hl)]; rfl

theorem sum_high (f : Fin 128 → EReal) :
    ∑ l : Fin 128, Scalar.select (IntOp.xori (IntOp.cmpi CmpIPredicate.slt (BitVec.ofNat 32 ↑l) 64#32) 1#1) (f l) 0
      = ∑ d, f (lane 1 d) :=
  sum_lane 1 _ f (fun l hl => by rw [high, if_neg (show ¬ (l : ℕ) / 64 = 1 from hl)]; rfl)
    fun l hl => by rw [high, if_pos (show (l : ℕ) / 64 = 1 from hl)]; rfl

theorem stack_sum (q k1 k2 k3 : FVec Ideal S256x128 .bf16) (h : Fin 2) (y : Fin 256) (j : Fin 768) :
    (if h' : (j : ℕ) < 256 then ∑ d, q (ix2 y (lane h d)) * k1 (ix2 ⟨j, h'⟩ (lane h d))
      else if h'' : (j : ℕ) - 256 < 256 then ∑ d, q (ix2 y (lane h d)) * k2 (ix2 ⟨j - 256, h''⟩ (lane h d))
      else ∑ d, q (ix2 y (lane h d)) * k3 (ix2 ⟨j - 256 - 256, by omega⟩ (lane h d))) = loc q k1 k2 k3 h y j := by
  unfold loc stack
  split
  · rfl
  · split <;> rfl

theorem pay4_at (q k1 k2 k3 : FVec Ideal S256x128 .bf16) (b : FVec Ideal S1x1x256x768 .f32) (y : Fin 256) (j : Fin 768) :
    k0_pay4 (F := Ideal) q k1 k2 k3 b (ix2 y j) = loc q k1 k2 k3 0 y j + b (ix4 0 0 y j) := by
  pointwise [k0_pay4, k0_pay3, k0_pay2]
  simp only [sum_low (fun x => _ * _)]
  rw [← stack_sum]

theorem pay10_at (q k1 k2 k3 : FVec Ideal S256x128 .bf16) (b : FVec Ideal S1x1x256x768 .f32) (y : Fin 256) (j : Fin 768) :
    k0_pay10 (F := Ideal) q k0_pay2 k1 k2 k3 b (ix2 y j) = loc q k1 k2 k3 1 y j + b (ix4 0 0 y j) := by
  pointwise [k0_pay10, k0_pay9, k0_pay2]
  simp only [sum_high (fun x => _ * _)]
  rw [← stack_sum]

theorem pay5_at (q kc : FVec Ideal S256x128 .bf16) (y : Fin 256) (j : Fin 256) :
    k0_pay5 (F := Ideal) q kc (ix2 y j) = ctx q kc 0 y j := by
  pointwise [k0_pay5, k0_pay3, k0_pay2]
  exact sum_low _

theorem pay11_at (q kc : FVec Ideal S256x128 .bf16) (y : Fin 256) (j : Fin 256) :
    k0_pay11 (F := Ideal) q k0_pay2 kc (ix2 y j) = ctx q kc 1 y j := by
  pointwise [k0_pay11, k0_pay9, k0_pay2]
  exact sum_high _

theorem bot_word : Ideal.ofBits FTy.f32 0xFF800000#32 = (⊥ : EReal) := by
  decide +kernel

theorem fold_sup {n : ℕ} (f : Fin n → EReal) :
    Finset.fold max (Ideal.ofBits FTy.f32 0xFF800000#32) f Finset.univ = Finset.univ.sup f := by
  rw [bot_word]; rfl

theorem pay6_at (q k1 k2 k3 : FVec Ideal S256x128 .bf16) (b : FVec Ideal S1x1x256x768 .f32) (y : Fin 256) :
    k0_pay6 (F := Ideal) q k1 k2 k3 b (ix2 y 0) = Finset.univ.sup fun j => loc q k1 k2 k3 0 y j + b (ix4 0 0 y j) := by
  pointwise [k0_pay6]
  simp only [pay4_at]
  exact fold_sup _

theorem pay12_at (q k1 k2 k3 : FVec Ideal S256x128 .bf16) (b : FVec Ideal S1x1x256x768 .f32) (y : Fin 256) :
    k0_pay12 (F := Ideal) q k0_pay2 k1 k2 k3 b (ix1 y) = Finset.univ.sup fun j => loc q k1 k2 k3 1 y j + b (ix4 0 0 y j) := by
  pointwise [k0_pay12]
  simp only [pay10_at]
  exact fold_sup _

theorem pay7_at (q kc : FVec Ideal S256x128 .bf16) (y : Fin 256) :
    k0_pay7 (F := Ideal) q kc (ix1 y) = Finset.univ.sup fun j => ctx q kc 0 y j := by
  pointwise [k0_pay7]
  simp only [pay5_at]
  exact fold_sup _

/-- A weighted sum over the stacked rows, in its three parts. -/
theorem sum_stack (p : Fin 768 → EReal) (v1 v2 v3 : FVec Ideal S256x128 .bf16) (z : Fin 128) (A : EReal) :
    A + ∑ x : Fin 256, p ⟨x, by omega⟩ * v1 (ix2 x z) + ∑ x : Fin 256, p ⟨256 + x, by omega⟩ * v2 (ix2 x z)
      + ∑ x : Fin 256, p ⟨512 + x, by omega⟩ * v3 (ix2 x z) = A + ∑ j, p j * stack v1 v2 v3 j z := by
  rw [Fin.sum_univ_tiles 3 256 rfl (fun j : Fin 768 => p j * stack v1 v2 v3 j z), Fin.sum_univ_three, add_assoc, add_assoc, add_assoc]
  refine congrArg _ (congrArg₂ _ ?_ (congrArg₂ _ ?_ ?_)) <;> refine Finset.sum_congr rfl fun x _ => ?_
  · have e : (⟨((0 : Fin 3) : ℕ) * 256 + (x : ℕ), by omega⟩ : Fin 768) = ⟨x, by omega⟩ := Fin.ext (by simp)
    rw [e, stack, dif_pos x.isLt]
  · have e : (⟨((1 : Fin 3) : ℕ) * 256 + (x : ℕ), by simp; omega⟩ : Fin 768) = ⟨256 + x, by omega⟩ := Fin.ext (by simp)
    rw [e, stack, dif_neg (by simp), dif_pos (by simp)]
    simp
  · have e : (⟨((2 : Fin 3) : ℕ) * 256 + (x : ℕ), by simp; omega⟩ : Fin 768) = ⟨512 + x, by omega⟩ := Fin.ext (by simp)
    rw [e, stack, dif_neg (by simp; omega), dif_neg (by simp; omega)]
    simp [show 512 + (x : ℕ) - 256 - 256 = x by omega]

theorem pay8_at (q k1 k2 k3 v1 v2 v3 kc vc : FVec Ideal S256x128 .bf16) (b : FVec Ideal S1x1x256x768 .f32) (y : Fin 256)
    (z : Fin 128) :
    k0_pay8 (F := Ideal) v1 v2 v3 vc (k0_pay4 q k1 k2 k3 b) (k0_pay5 q kc) (k0_pay6 q k1 k2 k3 b) (k0_pay7 q kc) (ix2 y z)
      = masked (fun j => loc q k1 k2 k3 0 y j + b (ix4 0 0 y j)) (ctx q kc 0 y) (fun j => stack v1 v2 v3 j z)
          (fun j => vc (ix2 j z)) := by
  pointwise [k0_pay8]
  simp only [pay4_at, pay5_at, pay6_at, pay7_at]
  rw [sum_stack (fun j => Ideal.exp (loc q k1 k2 k3 0 y j + b (ix4 0 0 y j) - _))]
  rfl

theorem out_at (q k1 k2 k3 v1 v2 v3 kc vc : FVec Ideal S256x128 .bf16) (b0 b1 : FVec Ideal S1x1x256x768 .f32) (y : Fin 256)
    (h : Fin 2) (d : Fin 64) :
    k0_pay1 (F := Ideal) k0_pay2 v1 v2 v3 vc
        (k0_pay8 v1 v2 v3 vc (k0_pay4 q k1 k2 k3 b0) (k0_pay5 q kc) (k0_pay6 q k1 k2 k3 b0) (k0_pay7 q kc))
        (k0_pay10 q k0_pay2 k1 k2 k3 b1) (k0_pay11 q k0_pay2 kc) (k0_pay12 q k0_pay2 k1 k2 k3 b1) (ix2 y (lane h d))
      = masked (fun j => loc q k1 k2 k3 h y j + (if h = 0 then b0 else b1) (ix4 0 0 y j)) (ctx q kc h y)
          (fun j => stack v1 v2 v3 j (lane h d)) (fun j => vc (ix2 j (lane h d))) := by
  pointwise [k0_pay1]
  simp only [pay10_at, pay11_at, pay12_at, pay8_at, fold_sup]
  rw [sum_stack (fun j => Ideal.exp (loc q k1 k2 k3 1 y j + b1 (ix4 0 0 y j) - _))]
  have e : k0_pay2 (ix2 0 (lane h d)) = if h = 0 then 1#1 else 0#1 := by
    pointwise [k0_pay2]
    rw [low]
    congr 1
    simp only [lane, eq_iff_iff, Fin.ext_iff, Fin.val_zero]
    omega
  rw [e]
  have hh : h = 0 ∨ h = 1 := by omega
  rcases hh with rfl | rfl
  · rfl
  · rfl

end Cert.KernelIdeal.Body

end
-- ==== Proof.Gather.lean ====
/- A host gather read at an index, axis by axis: an axis the result carries whole, and an axis a start word picks. -/
module

public import Idealize.ShloMosaic.Lib.Pointwise

@[expose] public section

noncomputable section

namespace Cert.Gather

open Idealize.ShloMosaic

variable {s si t : Shape} (d : GatherDims s si t)

/-- An operand axis that the result carries whole reads the result's coordinate on its offset axis. -/
theorem whole_axis {w : ℕ} (j : t.Idx) (idx : IVec si w) (a : Fin s.rank) (hb : a ∉ d.operandBatchingDims)
    (hs : a ∉ d.startIndexMap) (ha : a ∈ d.sKept) (b : Fin t.rank)
    (e : (d.offsetDims[d.sKept.idxOf a]'(by rw [d.offset_length]; exact List.idxOf_lt_length_iff.2 ha)) = b) :
    (d.operandIdx j idx a : ℕ) = (j b : ℕ) := by
  show d.start j idx a + d.batchCoord j a + d.offCoord j a = _
  rw [d.batchCoord_eq_zero j a hb]
  unfold GatherDims.start GatherDims.offCoord
  rw [dif_neg hs, dif_pos ha]
  subst e
  simp

/-- An operand axis that a start word picks reads the word, signed, clamped into the axis. -/
theorem word_axis {w : ℕ} (j : t.Idx) (idx : IVec si w) (a : Fin s.rank) (hb : a ∉ d.operandBatchingDims)
    (hs : a ∈ d.startIndexMap) (ha : a ∉ d.sKept) (k : si.Idx)
    (e : d.siIdx j ⟨d.startIndexMap.idxOf a, List.idxOf_lt_length_iff.2 hs⟩ = k) :
    (d.operandIdx j idx a : ℕ) = min (idx k).toInt.toNat (s.size a - d.sliceSizes a) := by
  show d.start j idx a + d.batchCoord j a + d.offCoord j a = _
  rw [d.batchCoord_eq_zero j a hb]
  unfold GatherDims.start GatherDims.offCoord
  rw [dif_pos hs, dif_neg ha, e]
  simp

end Cert.Gather

end
-- ==== Proof.Spec.lean ====
/- The neighbourhood attention of one token, one head and one dimension, as a formula over the argument arrays. -/
module

public import proofs.«01_k».proof.Proof.Soft
public import Idealize.ShloMosaic.Lib.Pointwise

@[expose] public section

noncomputable section

namespace Cert.Spec

open Idealize.ShloMosaic Cert.Soft

/-- A matrix read at two numbers. -/
def rd2 {a b : ℕ} (x : (⟨2, ![a, b]⟩ : Shape).Idx → EReal) (i j : ℕ) : EReal :=
  if h : i < a ∧ j < b then x (ix2 ⟨i, h.1⟩ ⟨j, h.2⟩) else 0

theorem rd2_eq {a b : ℕ} (x : (⟨2, ![a, b]⟩ : Shape).Idx → EReal) (i : Fin a) (j : Fin b) : x (ix2 i j) = rd2 x i j := by
  rw [rd2, dif_pos ⟨i.isLt, j.isLt⟩]

theorem rd2_of {a b : ℕ} (x : (⟨2, ![a, b]⟩ : Shape).Idx → EReal) (i : Fin a) (j : Fin b) (n m : ℕ) (hi : (i : ℕ) = n)
    (hj : (j : ℕ) = m) : x (ix2 i j) = rd2 x n m := by
  subst hi hj
  exact rd2_eq x i j

/-- A stack of matrices read at three numbers. -/
def rd3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem rd3_eq {a b c : ℕ} (x : (⟨3, ![a, b, c]⟩ : Shape).Idx → EReal) (i : Fin a) (j : Fin b) (k : Fin c) :
    x (ix3 i j k) = rd3 x i j k := by
  rw [rd3, dif_pos ⟨i.isLt, j.isLt, k.isLt⟩]

theorem rd3_of {a b c : ℕ} (x : (⟨3, ![a, b, c]⟩ : Shape).Idx → EReal) (i : Fin a) (j : Fin b) (k : Fin c) (n m l : ℕ)
    (hi : (i : ℕ) = n) (hj : (j : ℕ) = m) (hk : (k : ℕ) = l) : x (ix3 i j k) = rd3 x n m l := by
  subst hi hj hk
  exact rd3_eq x i j k

/-- The first row of the window of grid row `r`. -/
def r0 (r : ℕ) : ℕ := min (r - 4) 120

/-- The first column of the window of grid column `w`. -/
def c0 (w : ℕ) : ℕ := min (w - 8) 48

variable (q k v : (⟨2, ![33792, 512]⟩ : Shape).Idx → EReal) (rpb : (⟨3, ![8, 15, 31]⟩ : Shape).Idx → EReal)

/-- The score of the token at grid place `(r, w)` of sample `b` against a place of its window. -/
def winScore (b h r w : ℕ) (x : Fin 8 × Fin 16) : EReal :=
  (∑ d : Fin 64, rd2 q (1024 + 8192 * b + 64 * r + w) (64 * h + d)
      * rd2 k (1024 + 8192 * b + 64 * (r0 r + x.1) + (c0 w + x.2)) (64 * h + d))
    + rd3 rpb h (r0 r + x.1 + 7 - r) (c0 w + x.2 + 15 - w)

/-- Its score against a context token of its sample. -/
def ctxScore (b h r w : ℕ) (j : Fin 256) : EReal :=
  ∑ d : Fin 64, rd2 q (1024 + 8192 * b + 64 * r + w) (64 * h + d) * rd2 k (256 * b + j) (64 * h + d)

/-- The attention's result at dimension `d` of head `h`. -/
def result (b h r w d : ℕ) : EReal :=
  windowed (winScore q k rpb b h r w) (ctxScore q k b h r w)
    (fun x => rd2 v (1024 + 8192 * b + 64 * (r0 r + x.1) + (c0 w + x.2)) (64 * h + d))
    (fun j => rd2 v (256 * b + j) (64 * h + d))

end Cert.Spec

end
-- ==== Proof.Bias.lean ====
/- The bias table that the host part hands to the kernel: for the first, an inner and the last block of grid rows, each
   head, query and key place, the learned bias of the offset where the key lies in the query's window, −∞ elsewhere. -/
module

public import proofs.«01_k».proof.Proof.Gen.KernelIdeal.Value
public import proofs.«01_k».proof.Proof.Gather
public import proofs.«01_k».proof.Proof.Spec
public import Idealize.ShloMosaic.Lib.Pipeline.ValueKit

@[expose] public section

set_option maxRecDepth 16384

noncomputable section

namespace Cert.KernelIdeal.Bias

open Cert.KernelIdeal Cert.KernelIdeal.Gen Idealize.ShloMosaic Idealize.ShloMosaic.TcCoe Idealize.SL.Sem Idealize.ShloMosaic.StableHlo

/-! ## The table as one function of the learned bias -/

/-- A word on every entry of a column of four. -/
abbrev four (w : BitVec 32) : IVec S4x1 32 := broadcastInDim S4x1 ![] bcast_S_S4x1 (constantI S_ 32 w)
/-- A column of four along each row of a four-by-twelve table. -/
abbrev down (x : IVec S4x1 32) : IVec S4x12 32 := broadcastInDim S4x12 ![0, 1] bcast_S4x1_S4x12_0_1 x
/-- A row of twelve along each column of it. -/
abbrev across (x : IVec S1x12 32) : IVec S4x12 32 := broadcastInDim S4x12 ![0, 1] bcast_S1x12_S4x12_0_1 x
/-- A word on every entry of it. -/
abbrev full (w : BitVec 32) : IVec S4x12 32 := broadcastInDim S4x12 ![] bcast_S_S4x12 (constantI S_ 32 w)

/-- The query rows of a block that starts at row `rb`. -/
def rowNo (rb : BitVec 32) : IVec S4x1 32 := addi (four rb) (broadcastInDim S4x1 ![0] bcast_S4_S4x1_0 (iotaInDim S4 32 0))
/-- The key rows of a group that starts at row `kb`. -/
def keyNo (kb : BitVec 32) : IVec S1x12 32 :=
  addi (broadcastInDim S1x12 ![] bcast_S_S1x12 (constantI S_ 32 kb)) (broadcastInDim S1x12 ![1] bcast_S12_S1x12_1 (iotaInDim S12 32 0))
/-- The first row of each query row's window. -/
def firstRow (rb : BitVec 32) : IVec S4x1 32 := minsi (four 120#32) (maxsi (four 0#32) (subi (rowNo rb) (four 4#32)))
/-- Which key rows lie in which query row's window. -/
def rowMask (rb kb : BitVec 32) : IVec S4x12 1 :=
  andi (cmpi .sge (across (keyNo kb)) (down (firstRow rb))) (cmpi .slt (across (keyNo kb)) (down (addi (firstRow rb) (four 8#32))))
/-- The row offsets, clipped to the learned table. -/
def rowOff (rb kb : BitVec 32) : IVec S4x12 32 :=
  minsi (full 14#32) (maxsi (full 0#32) (subi (addi (subi (across (keyNo kb)) (down (rowNo rb))) (full 8#32)) (full 1#32)))
/-- The same offsets in one column, a negative one counted from the end. -/
def rowIdx (rb kb : BitVec 32) : IVec S48x1 32 :=
  broadcastInDim S48x1 ![0] bcast_S48_S48x1_0
    (select (cmpi .slt (shapeCast S48 (rowOff rb kb) shapeCasts_S4x12_S48) (broadcastInDim S48 ![] bcast_S_S48 (constantI S_ 32 0#32)))
      (addi (shapeCast S48 (rowOff rb kb) shapeCasts_S4x12_S48) (broadcastInDim S48 ![] bcast_S_S48 (constantI S_ 32 15#32)))
      (shapeCast S48 (rowOff rb kb) shapeCasts_S4x12_S48))

/-- One block's table, from the learned bias laid out by column pairs and the column mask. -/
def table (t : FVec Ideal S8x15x4096 .f32) (mc : IVec S64x64 1) (rb kb : BitVec 32) : FVec Ideal S8x4x64x12x64 .f32 :=
  select (broadcastInDim S8x4x64x12x64 ![0, 1, 2, 3, 4] bcast_S1x4x64x12x64_S8x4x64x12x64_0_1_2_3_4
      (broadcastInDim S1x4x64x12x64 ![1, 2, 3, 4] bcast_S4x64x12x64_S1x4x64x12x64_1_2_3_4
        (andi (broadcastInDim S4x64x12x64 ![0, 1, 2, 3] bcast_S4x1x12x1_S4x64x12x64_0_1_2_3
            (broadcastInDim S4x1x12x1 ![0, 2] bcast_S4x12_S4x1x12x1_0_2 (rowMask rb kb)))
          (broadcastInDim S4x64x12x64 ![0, 1, 2, 3] bcast_S1x64x1x64_S4x64x12x64_0_1_2_3
            (broadcastInDim S1x64x1x64 ![1, 3] bcast_S64x64_S1x64x1x64_1_3 mc)))))
    (transpose S8x4x64x12x64 [0, 1, 3, 2, 4]
      (shapeCast S8x4x12x64x64 (Host.gather gather_S8x15x4096_S48x1_S8x48x4096_02_1_n_n_1_1_814096 t (rowIdx rb kb))
        shapeCasts_S8x48x4096_S8x4x12x64x64) transposes_S8x4x12x64x64_S8x4x64x12x64_0_1_3_2_4)
    (broadcastInDim S8x4x64x12x64 ![] bcast_S_S8x4x64x12x64 (constant S_ FTy.f32 4286578688#32))

/-- The first column of each grid column's window. -/
def firstCol : IVec S64x1 32 :=
  minsi (broadcastInDim S64x1 ![] bcast_S_S64x1 (constantI S_ 32 48#32)) (maxsi (broadcastInDim S64x1 ![] bcast_S_S64x1 (constantI S_ 32 0#32))
    (subi (broadcastInDim S64x1 ![0] bcast_S64_S64x1_0 (iotaInDim S64 32 0)) (broadcastInDim S64x1 ![] bcast_S_S64x1 (constantI S_ 32 8#32))))
/-- The columns, along each row of a table. -/
abbrev colNo : IVec S64x64 32 := broadcastInDim S64x64 ![0, 1] bcast_S1x64_S64x64_0_1 (broadcastInDim S1x64 ![1] bcast_S64_S1x64_1 (iotaInDim S64 32 0))
/-- Which key columns lie in which query column's window. -/
def colMask : IVec S64x64 1 :=
  andi (cmpi .sge colNo (broadcastInDim S64x64 ![0, 1] bcast_S64x1_S64x64_0_1 firstCol))
    (cmpi .slt colNo (broadcastInDim S64x64 ![0, 1] bcast_S64x1_S64x64_0_1
      (addi firstCol (broadcastInDim S64x1 ![] bcast_S_S64x1 (constantI S_ 32 16#32)))))
/-- A word on every entry of that table. -/
abbrev wide (w : BitVec 32) : IVec S64x64 32 := broadcastInDim S64x64 ![] bcast_S_S64x64 (constantI S_ 32 w)
/-- The column offsets, clipped to the learned table. -/
def colOff : IVec S64x64 32 :=
  minsi (wide 30#32) (maxsi (wide 0#32) (subi (addi (subi colNo (broadcastInDim S64x64 ![0, 1] bcast_S64x1_S64x64_0_1
    (broadcastInDim S64x1 ![0] bcast_S64_S64x1_0 (iotaInDim S64 32 0)))) (wide 16#32)) (wide 1#32)))
/-- Offsets in one column, a negative one counted from the end. -/
def colIdx (o : IVec S64x64 32) : IVec S4096x1 32 :=
  broadcastInDim S4096x1 ![0] bcast_S4096_S4096x1_0
    (select (cmpi .slt (shapeCast S4096 o shapeCasts_S64x64_S4096) (broadcastInDim S4096 ![] bcast_S_S4096 (constantI S_ 32 0#32)))
      (addi (shapeCast S4096 o shapeCasts_S64x64_S4096) (broadcastInDim S4096 ![] bcast_S_S4096 (constantI S_ 32 31#32)))
      (shapeCast S4096 o shapeCasts_S64x64_S4096))
/-- The learned bias laid out by column pairs. -/
def byCol (x3 : FVec Ideal S8x15x31 .f32) (o : IVec S64x64 32) : FVec Ideal S8x15x4096 .f32 :=
  Host.gather gather_S8x15x31_S4096x1_S8x15x4096_01_2_n_n_2_1_8151 x3 (colIdx o)

/-- Three tables, one above the other. -/
def stacked (a b d : FVec Ideal S8x256x768 .f32) : FVec Ideal S3x8x256x768 .f32 :=
  concatenate S3x8x256x768 0 [⟨S1x8x256x768, broadcastInDim S1x8x256x768 ![1, 2, 3] bcast_S8x256x768_S1x8x256x768_1_2_3 a⟩,
    ⟨S1x8x256x768, broadcastInDim S1x8x256x768 ![1, 2, 3] bcast_S8x256x768_S1x8x256x768_1_2_3 b⟩,
    ⟨S1x8x256x768, broadcastInDim S1x8x256x768 ![1, 2, 3] bcast_S8x256x768_S1x8x256x768_1_2_3 d⟩]
    concatenates_S1x8x256x768_S1x8x256x768_S1x8x256x768_S3x8x256x768_d0
/-- A block's table with its query places and its key places each in one axis. -/
abbrev flat (x : FVec Ideal S8x4x64x12x64 .f32) : FVec Ideal S8x256x768 .f32 := shapeCast S8x256x768 x shapeCasts_S8x4x64x12x64_S8x256x768

/-- The whole table. -/
def bias (x3 : FVec Ideal S8x15x31 .f32) : FVec Ideal S3x8x256x768 .f32 :=
  stacked (flat (table (byCol x3 colOff) colMask 0#32 0#32)) (flat (table (byCol x3 colOff) colMask 4#32 0#32))
    (flat (table (byCol x3 colOff) colMask 124#32 116#32))

/-! ## The host operations leave that table in the kernel's operand -/

/-- The host operations up to the column offsets; then those of each of the three blocks. -/
abbrev lineA : List (HloOp τ sig (Elt Ideal)) := hostOps0 ++ hostOps0_1 ++ hostOps0_2 ++ hostOps0_3
abbrev lineB : List (HloOp τ sig (Elt Ideal)) := hostOps0_4 ++ hostOps0_5 ++ hostOps0_6 ++ hostOps0_7 ++ hostOps0_8 ++ hostOps0_9
abbrev lineC : List (HloOp τ sig (Elt Ideal)) := hostOps0_10 ++ hostOps0_11 ++ hostOps0_12 ++ hostOps0_13 ++ hostOps0_14 ++ hostOps0_15
abbrev lineD : List (HloOp τ sig (Elt Ideal)) := hostOps0_16 ++ hostOps0_17 ++ hostOps0_18 ++ hostOps0_19 ++ hostOps0_20 ++ hostOps0_21

variable (σ : Valuation τ sig (Elt Ideal))

theorem A15 : (after lineA σ (Proc.tc.devRef main_v15) : IVec S64x64 1) = colMask := by
  simp only [lineA, List.cons_append, List.nil_append, TRef.binary, TRef.unary, TRef.ternary, TRef.toBuf, TRef.ofBuf, cast_eq]
  after_results_simp
  rfl
theorem A23 : (after lineA σ (Proc.tc.devRef main_v23) : IVec S64x64 32) = colOff := by
  simp only [lineA, List.cons_append, List.nil_append, TRef.binary, TRef.unary, TRef.ternary, TRef.toBuf, TRef.ofBuf, cast_eq]
  after_results_simp
  rfl
theorem A3 : after lineA σ (Proc.tc.devRef main_arg3) = σ (Proc.tc.devRef main_arg3) := by
  simp only [lineA, List.cons_append, List.nil_append, TRef.binary, TRef.unary, TRef.ternary, TRef.toBuf, TRef.ofBuf, cast_eq]
  after_results_simp
theorem B15 : after lineB σ (Proc.tc.devRef main_v15) = σ (Proc.tc.devRef main_v15) := by
  simp only [lineB, List.cons_append, List.nil_append, TRef.binary, TRef.unary, TRef.ternary, TRef.toBuf, TRef.ofBuf, cast_eq]
  after_results_simp
theorem B31 : (after lineB σ (Proc.tc.devRef main_v31) : FVec Ideal S8x15x4096 .f32)
    = byCol (σ (Proc.tc.devRef main_arg3)) (σ (Proc.tc.devRef main_v23)) := by
  simp only [lineB, List.cons_append, List.nil_append, TRef.binary, TRef.unary, TRef.ternary, TRef.toBuf, TRef.ofBuf, cast_eq]
  after_results_simp
  rfl
theorem B76 : (after lineB σ (Proc.tc.devRef main_v76) : FVec Ideal S8x4x64x12x64 .f32)
    = table (byCol (σ (Proc.tc.devRef main_arg3)) (σ (Proc.tc.devRef main_v23))) (σ (Proc.tc.devRef main_v15)) 0#32 0#32 := by
  simp only [lineB, List.cons_append, List.nil_append, TRef.binary, TRef.unary, TRef.ternary, TRef.toBuf, TRef.ofBuf, cast_eq]
  after_results_simp
  rfl
theorem C15 : after lineC σ (Proc.tc.devRef main_v15) = σ (Proc.tc.devRef main_v15) := by
  simp only [lineC, List.cons_append, List.nil_append, TRef.binary, TRef.unary, TRef.ternary, TRef.toBuf, TRef.ofBuf, cast_eq]
  after_results_simp
theorem C31 : after lineC σ (Proc.tc.devRef main_v31) = σ (Proc.tc.devRef main_v31) := by
  simp only [lineC, List.cons_append, List.nil_append, TRef.binary, TRef.unary, TRef.ternary, TRef.toBuf, TRef.ofBuf, cast_eq]
  after_results_simp
theorem C77 : (after lineC σ (Proc.tc.devRef main_v77) : FVec Ideal S8x256x768 .f32) = flat (σ (Proc.tc.devRef main_v76)) := by
  simp only [lineC, List.cons_append, List.nil_append, TRef.binary, TRef.unary, TRef.ternary, TRef.toBuf, TRef.ofBuf, cast_eq]
  after_results_simp
  rfl
theorem C122 : (after lineC σ (Proc.tc.devRef main_v122) : FVec Ideal S8x4x64x12x64 .f32)
    = table (σ (Proc.tc.devRef main_v31)) (σ (Proc.tc.devRef main_v15)) 4#32 0#32 := by
  simp only [lineC, List.cons_append, List.nil_append, TRef.binary, TRef.unary, TRef.ternary, TRef.toBuf, TRef.ofBuf, cast_eq]
  after_results_simp
  rfl
theorem D77 : after lineD σ (Proc.tc.devRef main_v77) = σ (Proc.tc.devRef main_v77) := by
  simp only [lineD, List.cons_append, List.nil_append, TRef.binary, TRef.unary, TRef.ternary, TRef.toBuf, TRef.ofBuf, cast_eq]
  after_results_simp
theorem D123 : (after lineD σ (Proc.tc.devRef main_v123) : FVec Ideal S8x256x768 .f32) = flat (σ (Proc.tc.devRef main_v122)) := by
  simp only [lineD, List.cons_append, List.nil_append, TRef.binary, TRef.unary, TRef.ternary, TRef.toBuf, TRef.ofBuf, cast_eq]
  after_results_simp
  rfl
theorem D168 : (after lineD σ (Proc.tc.devRef main_v168) : FVec Ideal S8x4x64x12x64 .f32)
    = table (σ (Proc.tc.devRef main_v31)) (σ (Proc.tc.devRef main_v15)) 124#32 116#32 := by
  simp only [lineD, List.cons_append, List.nil_append, TRef.binary, TRef.unary, TRef.ternary, TRef.toBuf, TRef.ofBuf, cast_eq]
  after_results_simp
  rfl
theorem E173 : (after hostOps0_22 σ (Proc.tc.devRef main_v173) : FVec Ideal S3x8x256x768 .f32)
    = stacked (σ (Proc.tc.devRef main_v77)) (σ (Proc.tc.devRef main_v123)) (flat (σ (Proc.tc.devRef main_v168))) := by
  after_results_simp
  rfl

variable (m : (ℓ : Loc nD τ sig) → Buf (Elt Ideal) ℓ)

/-- THE KERNEL'S BIAS OPERAND. -/
theorem entry (c : Dev nD) : (V (F := Ideal) m c main_v173 : FVec Ideal S3x8x256x768 .f32) = bias (m ((c : Thread nD τ).loc main_arg3)) := by
  have h : V (F := Ideal) m c main_v173
      = after hostOps0_22 (after lineD (after lineC (after lineB (after lineA (fun b => m (c, b)))))) (Proc.tc.devRef main_v173) := by
    simp only [V, lineA, lineB, lineC, lineD, List.flatten_cons, List.flatten_nil, after_append, List.append_nil, List.append_assoc]
  refine h.trans ?_
  rw [E173, D168, D123, D77, C15, C31, C77, C122, B15, B31, B76, A15, A23, A3]
  rfl

end Cert.KernelIdeal.Bias

end
-- ==== Proof.BiasAt.lean ====
/- The bias table, entry by entry. -/
module

public import proofs.«01_k».proof.Proof.Gather
public import proofs.«01_k».proof.Proof.Spec
public import proofs.«01_k».proof.Proof.Bias
public import Idealize.ShloMosaic.Lib.Pipeline.ValueKit

@[expose] public section

set_option maxRecDepth 16384

noncomputable section

namespace Cert.KernelIdeal.Bias

open Cert.KernelIdeal Cert.KernelIdeal.Gen Idealize.ShloMosaic Idealize.ShloMosaic.TcCoe Idealize.SL.Sem Idealize.ShloMosaic.StableHlo
open Cert.Spec

theorem gather_row (x : FVec Ideal S8x15x4096 .f32) (idx : IVec S48x1 32) (y : S8x48x4096.Idx) :
    Host.gather gather_S8x15x4096_S48x1_S8x48x4096_02_1_n_n_1_1_814096 x idx y
      = x (ix3 (y 0) ⟨min (idx (ix2 (y 1) 0)).toInt.toNat 14, by omega⟩ (y 2)) := by
  unfold Host.gather
  congr 1
  funext a
  refine Fin.ext ?_
  match a with
  | ⟨0, _⟩ => exact Gather.whole_axis _ y idx 0 (by decide) (by decide) (by decide) 0 (by decide)
  | ⟨1, _⟩ =>
    refine Gather.word_axis _ y idx 1 (by decide) (by decide) (by decide) _ ?_
    funext b
    refine Fin.ext ?_
    match b with
    | ⟨0, _⟩ => rfl
    | ⟨1, _⟩ => rfl
  | ⟨2, _⟩ => exact Gather.whole_axis _ y idx 2 (by decide) (by decide) (by decide) 2 (by decide)

theorem gather_col (x : FVec Ideal S8x15x31 .f32) (idx : IVec S4096x1 32) (y : S8x15x4096.Idx) :
    Host.gather gather_S8x15x31_S4096x1_S8x15x4096_01_2_n_n_2_1_8151 x idx y
      = x (ix3 (y 0) (y 1) ⟨min (idx (ix2 (y 2) 0)).toInt.toNat 30, by omega⟩) := by
  unfold Host.gather
  congr 1
  funext a
  refine Fin.ext ?_
  match a with
  | ⟨0, _⟩ => exact Gather.whole_axis _ y idx 0 (by decide) (by decide) (by decide) 0 (by decide)
  | ⟨1, _⟩ => exact Gather.whole_axis _ y idx 1 (by decide) (by decide) (by decide) 1 (by decide)
  | ⟨2, _⟩ =>
    refine Gather.word_axis _ y idx 2 (by decide) (by decide) (by decide) _ ?_
    funext b
    refine Fin.ext ?_
    match b with
    | ⟨0, _⟩ => rfl
    | ⟨1, _⟩ => rfl

/-! ## The words -/

/-- The key column `k` lies in the window of column `c`. -/
def inCols (c k : ℕ) : Bool := decide (c0 c ≤ k ∧ k < c0 c + 16)
/-- The key row `k` lies in the window of row `r`. -/
def inRows (r k : ℕ) : Bool := decide (r0 r ≤ k ∧ k < r0 r + 8)

/-- A truth value as a one-bit word. -/
def bit (b : Bool) : BitVec 1 := if b then 1#1 else 0#1

theorem bit_and (a b : Bool) : IntOp.andi (bit a) (bit b) = bit (a && b) := by
  cases a <;> cases b <;> rfl

/-- What the words of one block say: the mask is the window, and inside it the offset is the true one. -/
structure Rows (rb kb : BitVec 32) (R K : ℕ) : Prop where
  mask : ∀ (q : Fin 4) (j : Fin 12), rowMask rb kb (ix2 q j) = bit (inRows (R + q) (K + j))
  off : ∀ (q : Fin 4) (j : Fin 12), inRows (R + q) (K + j) = true →
    min (rowIdx rb kb (ix2 ⟨q * 12 + j, by omega⟩ 0)).toInt.toNat 14 = K + j + 7 - (R + q)

theorem rows_first : Rows 0#32 0#32 0 0 := ⟨by decide +kernel, by decide +kernel⟩
theorem rows_inner : Rows 4#32 0#32 4 0 := ⟨by decide +kernel, by decide +kernel⟩
theorem rows_last : Rows 124#32 116#32 124 116 := ⟨by decide +kernel, by decide +kernel⟩

theorem colMask_at : ∀ c k : Fin 64, colMask (ix2 c k) = bit (inCols c k) := by decide +kernel
theorem colIdx_at : ∀ c k : Fin 64, inCols c k = true →
    min (colIdx colOff (ix2 ⟨c * 64 + k, by omega⟩ 0)).toInt.toNat 30 = k + 15 - c := by decide +kernel

/-! ## The entries -/

variable (x3 : FVec Ideal S8x15x31 .f32)

theorem byCol_at (h : Fin 8) (a : Fin 15) (c k : Fin 64) (hc : inCols c k = true) (n : ℕ) (hn : (a : ℕ) = n) :
    byCol x3 colOff (ix3 h a ⟨c * 64 + k, by omega⟩) = rd3 x3 h n (k + 15 - c) := by
  unfold byCol
  rw [gather_col]
  exact rd3_of x3 _ _ _ _ _ _ rfl hn (colIdx_at c k hc)

theorem select_bit {α : Type} (b : Bool) (x y : α) : Scalar.select (bit b) x y = if b then x else y := by
  cases b <;> rfl

/-- One block's table at a place. -/
theorem table_at {rb kb : BitVec 32} {R K : ℕ} (w : Rows rb kb R K) (h : Fin 8) (q : Fin 4) (c : Fin 64) (j : Fin 12) (k : Fin 64) :
    table (byCol x3 colOff) colMask rb kb (ix5 h q c j k)
      = if inRows (R + q) (K + j) && inCols c k then rd3 x3 h (K + j + 7 - (R + q)) (k + 15 - c) else (⊥ : EReal) := by
  pointwise [table]
  rw [w.mask, colMask_at, bit_and, select_bit, gather_row]
  by_cases hh : (inRows (R + q) (K + j) && inCols c k) = true
  · rw [if_pos hh, if_pos hh]
    have h1 := (Bool.and_eq_true _ _).mp hh
    exact byCol_at x3 h _ c k h1.2 _ (w.off q j h1.1)
  · rw [if_neg hh, if_neg hh]
    have e : Ideal.ofBits FTy.f32 0xFF800000#32 = (⊥ : EReal) := by decide +kernel
    exact e

/-- The first rows of the three kinds of block, and of the key rows each sees. -/
def qBase (v : Fin 3) : ℕ := if v = 0 then 0 else if v = 1 then 4 else 124
def kBase (v : Fin 3) : ℕ := if v = 2 then 116 else 0

theorem bias_at (v : Fin 3) (h : Fin 8) (q : Fin 4) (c : Fin 64) (j : Fin 12) (k : Fin 64) :
    bias x3 (ix4 v h ⟨64 * q + c, by omega⟩ ⟨64 * j + k, by omega⟩)
      = if inRows (qBase v + q) (kBase v + j) && inCols c k then rd3 x3 h (kBase v + j + 7 - (qBase v + q)) (k + 15 - c) else (⊥ : EReal) := by
  pointwise [bias, stacked]
  match v with
  | ⟨0, _⟩ => exact table_at x3 rows_first h q c j k
  | ⟨1, _⟩ => exact table_at x3 rows_inner h q c j k
  | ⟨2, _⟩ => exact table_at x3 rows_last h q c j k

end Cert.KernelIdeal.Bias

end
-- ==== Proof.Attend.lean ====
/- One block of the kernel against the plain attention: the block's masked softmax over 768 latent keys is the softmax
   over the query's own window of 128. -/
module

public import proofs.«01_k».proof.Proof.Body
public import proofs.«01_k».proof.Proof.BiasAt

@[expose] public section

set_option maxRecDepth 16384

noncomputable section

namespace Cert.KernelIdeal.Attend

open Cert.KernelIdeal Cert.KernelIdeal.Gen Idealize.ShloMosaic Idealize.ShloMosaic.TcCoe Idealize.SL.Sem
open Cert.Spec Cert.Soft Cert.KernelIdeal.Body Cert.KernelIdeal.Bias

theorem fin_rd2 {a b : ℕ} (x : (⟨2, ![a, b]⟩ : Shape).Idx → EReal) (h : ∀ i, Fin' (x i)) (i j : ℕ) : Fin' (rd2 x i j) := by
  rw [rd2]
  split
  · exact h _
  · exact ⟨0, rfl⟩

theorem fin_rd3 {a b c : ℕ} (x : (⟨3, ![a, b, c]⟩ : Shape).Idx → EReal) (h : ∀ i, Fin' (x i)) (i j k : ℕ) : Fin' (rd3 x i j k) := by
  rw [rd3]
  split
  · exact h _
  · exact ⟨0, rfl⟩

/-- A block of an array of tokens: its rows from `n` on, its lanes from `l` on. -/
def Block (x : FVec Ideal S256x128 .bf16) (X : FVec Ideal S33792x512 .bf16) (n l : ℕ) : Prop :=
  ∀ (y : Fin 256) (d : Fin 128), x (ix2 y d) = rd2 X (n + y) (l + d)

theorem stack_at {k1 k2 k3 : FVec Ideal S256x128 .bf16} {K : FVec Ideal S33792x512 .bf16} {n l : ℕ} (h1 : Block k1 K n l)
    (h2 : Block k2 K (n + 256) l) (h3 : Block k3 K (n + 512) l) (j : Fin 768) (d : Fin 128) :
    stack k1 k2 k3 j d = rd2 K (n + j) (l + d) := by
  rw [stack]
  split
  · exact h1 _ _
  · split
    · rw [h2]
      congr 1
      dsimp only; omega
    · rw [h3]
      congr 1
      dsimp only; omega

/-- The first key row of the three blocks that query block `i` sees. -/
def firstKey (i : ℕ) : ℕ := 4 * min (i - 1) 29

/-- The kind of block `i`: the first, an inner one, the last. -/
def kind (i : ℕ) : Fin 3 := if i = 0 then 0 else if i = 31 then 2 else 1

/-- A kind's rows stand to one another as the block's own rows do. -/
theorem kind_rows (i : ℕ) (hi : i < 32) (q j : ℕ) (hq : q < 4) (hj : j < 12) :
    inRows (qBase (kind i) + q) (kBase (kind i) + j) = inRows (4 * i + q) (firstKey i + j)
      ∧ kBase (kind i) + j + 7 - (qBase (kind i) + q) = firstKey i + j + 7 - (4 * i + q) := by
  rw [kind]
  by_cases h0 : i = 0
  · subst h0
    exact ⟨rfl, rfl⟩
  · by_cases h1 : i = 31
    · subst h1
      exact ⟨rfl, rfl⟩
    · rw [if_neg h0, if_neg h1]
      have hb : qBase 1 = 4 := rfl
      have hk : kBase 1 = 0 := rfl
      have hf : firstKey i = 4 * i - 4 := by rw [firstKey]; omega
      rw [hb, hk, hf]
      refine ⟨?_, by omega⟩
      rw [inRows, inRows, r0, r0]
      exact decide_eq_decide.mpr (by omega)

variable (i : ℕ) (hi : i < 32) (r w : ℕ) (hr : r / 4 = i) (hw : w < 64)

/-- Where in the 768 keys a place of the window of `(r, w)` lies. -/
def seat (x : Fin 8 × Fin 16) : Fin 768 :=
  ⟨min (64 * (r0 r + x.1 - firstKey i) + (c0 w + x.2)) 767, by omega⟩

include hi hr hw in
theorem seat_val (x : Fin 8 × Fin 16) : (seat i r w x : ℕ) = 64 * (r0 r + x.1 - firstKey i) + (c0 w + x.2)
    ∧ firstKey i ≤ r0 r ∧ r0 r + x.1 - firstKey i < 12 ∧ c0 w + x.2 < 64 := by
  have h1 := x.1.isLt
  have h2 := x.2.isLt
  simp only [seat, r0, c0, firstKey]
  omega

include hi hr hw in
theorem seat_inj : Function.Injective (seat i r w) := by
  intro x y e
  have hx := seat_val i hi r w hr hw x
  have hy := seat_val i hi r w hr hw y
  have e' : (seat i r w x : ℕ) = seat i r w y := congrArg Fin.val e
  rw [hx.1, hy.1] at e'
  exact Prod.ext (Fin.ext (by omega)) (Fin.ext (by omega))

variable (x3 : FVec Ideal S8x15x31 .f32) (h : Fin 8)

include hi hr hw in
/-- The block's bias at a seat is the learned one; elsewhere it is −∞. -/
theorem bias_seat (y : Fin 256) (hy : (y : ℕ) = 64 * (r - 4 * i) + w) (x : Fin 8 × Fin 16) :
    bias x3 (ix4 (kind i) h y (seat i r w x)) = rd3 x3 h (r0 r + x.1 + 7 - r) (c0 w + x.2 + 15 - w) := by
  have hx := seat_val i hi r w hr hw x
  have h1 := x.1.isLt
  have h2 := x.2.isLt
  have e := bias_at x3 (kind i) h ⟨r - 4 * i, by omega⟩ ⟨w, hw⟩ ⟨r0 r + x.1 - firstKey i, hx.2.2.1⟩ ⟨c0 w + x.2, hx.2.2.2⟩
  have hk := kind_rows i hi (r - 4 * i) (r0 r + x.1 - firstKey i) (by omega) hx.2.2.1
  dsimp only at e
  rw [hk.1, hk.2] at e
  have a1 : 4 * i + (r - 4 * i) = r := by omega
  have a2 : firstKey i + (r0 r + x.1 - firstKey i) = r0 r + x.1 := by omega
  rw [a1, a2, if_pos (by simp only [inRows, inCols, Bool.and_eq_true, decide_eq_true_eq]; omega)] at e
  rw [← e]
  congr 1
  exact congrArg₂ (ix4 (kind i) h) (Fin.ext hy) (Fin.ext hx.1)

include hi hr hw in
theorem bias_off (y : Fin 256) (hy : (y : ℕ) = 64 * (r - 4 * i) + w) (j : Fin 768) (hj : j ∉ Set.range (seat i r w)) :
    bias x3 (ix4 (kind i) h y j) = (⊥ : EReal) := by
  have e := bias_at x3 (kind i) h ⟨r - 4 * i, by omega⟩ ⟨w, hw⟩ ⟨j / 64, by omega⟩ ⟨j % 64, by omega⟩
  have hk := kind_rows i hi (r - 4 * i) (j / 64) (by omega) (by omega)
  dsimp only at e
  have a1 : 4 * i + (r - 4 * i) = r := by omega
  rw [hk.1, hk.2, a1, if_neg] at e
  · rw [← e]
    congr 1
    exact congrArg₂ (ix4 (kind i) h) (Fin.ext hy) (Fin.ext (by dsimp only; omega))
  · intro hc
    simp only [inRows, inCols, Bool.and_eq_true, decide_eq_true_eq] at hc
    refine hj ⟨(⟨firstKey i + j / 64 - r0 r, by omega⟩, ⟨j % 64 - c0 w, by omega⟩), Fin.ext ?_⟩
    have hx := seat_val i hi r w hr hw (⟨firstKey i + j / 64 - r0 r, by omega⟩, ⟨j % 64 - c0 w, by omega⟩)
    rw [hx.1]
    dsimp only
    omega

variable (Q K V' : FVec Ideal S33792x512 .bf16) (hQ : ∀ i, Fin' (Q i)) (hK : ∀ i, Fin' (K i)) (hR : ∀ i, Fin' (x3 i))
variable (b p : ℕ) {q k1 k2 k3 v1 v2 v3 kc vc : FVec Ideal S256x128 .bf16}
variable (bq : Block q Q (1024 + 8192 * b + 256 * i) (128 * p))
variable (b1 : Block k1 K (1024 + 8192 * b + 64 * firstKey i) (128 * p)) (b2 : Block k2 K (1024 + 8192 * b + 64 * firstKey i + 256) (128 * p))
variable (b3 : Block k3 K (1024 + 8192 * b + 64 * firstKey i + 512) (128 * p))
variable (c1 : Block v1 V' (1024 + 8192 * b + 64 * firstKey i) (128 * p)) (c2 : Block v2 V' (1024 + 8192 * b + 64 * firstKey i + 256) (128 * p))
variable (c3 : Block v3 V' (1024 + 8192 * b + 64 * firstKey i + 512) (128 * p))
variable (bc : Block kc K (256 * b) (128 * p)) (cc : Block vc V' (256 * b) (128 * p))

include hi hr hw hQ hK hR bq b1 b2 b3 c1 c2 c3 bc cc in
/-- ONE ROW OF ONE BLOCK: the masked softmax is the plain attention of that token and head. -/
theorem row_eq (hh : Fin 2) (hp : (h : ℕ) = 2 * p + hh) (d : Fin 64) (y : Fin 256) (hy : (y : ℕ) = 64 * (r - 4 * i) + w) :
    masked (fun j => loc q k1 k2 k3 hh y j + bias x3 (ix4 (kind i) h y j)) (ctx q kc hh y)
        (fun j => stack v1 v2 v3 j (lane hh d)) (fun j => vc (ix2 j (lane hh d)))
      = result Q K V' x3 b h r w d := by
  have hx := seat_val i hi r w hr hw
  have eC : ctx q kc hh y = ctxScore Q K b h r w := by
    funext j
    refine Finset.sum_congr rfl fun e _ => ?_
    rw [bq, bc, hp]
    simp only [lane]
    exact congrArg₂ (· * ·) (congrArg₂ (rd2 Q) (by omega) (by omega)) (congrArg₂ (rd2 K) (by omega) (by omega))
  have eS : (fun x => loc q k1 k2 k3 hh y (seat i r w x) + bias x3 (ix4 (kind i) h y (seat i r w x))) = winScore Q K x3 b h r w := by
    funext x
    rw [bias_seat i hi r w hr hw x3 h y hy x, winScore]
    refine congrArg (· + _) (Finset.sum_congr rfl fun e _ => ?_)
    rw [bq, stack_at b1 b2 b3, hp]
    have hx := hx x
    rw [hx.1]
    simp only [lane]
    exact congrArg₂ (· * ·) (congrArg₂ (rd2 Q) (by omega) (by omega)) (congrArg₂ (rd2 K) (by omega) (by omega))
  rw [masked_eq_windowed _ _ _ _ (seat i r w) (seat_inj i hi r w hr hw), eS, eC, result]
  · congr 1
    · funext x
      rw [stack_at c1 c2 c3, hp]
      have hx := hx x
      rw [hx.1]
      simp only [lane]
      exact congrArg₂ (rd2 V') (by omega) (by omega)
    · funext j
      rw [cc, hp]
      simp only [lane]
      exact congrArg₂ (rd2 V') (by omega) (by omega)
  · intro x
    have e := congrFun eS x
    rw [e]
    exact fin_add (fin_sum _ _ fun e => fin_mul (fin_rd2 Q hQ _ _) (fin_rd2 K hK _ _)) (fin_rd3 x3 hR _ _ _)
  · intro j
    rw [eC]
    exact fin_sum _ _ fun e => fin_mul (fin_rd2 Q hQ _ _) (fin_rd2 K hK _ _)
  · intro j hj
    rw [bias_off i hi r w hr hw x3 h y hy j hj]
    exact EReal.add_bot _

end Cert.KernelIdeal.Attend

end
-- ==== Proof.Point.lean ====
/- What the kernel's run leaves in its result: the plain attention of every token, head and dimension. -/
module

public import proofs.«01_k».proof.Proof.Gen.KernelIdeal.Value
public import proofs.«01_k».proof.Proof.Attend
public import Idealize.ShloMosaic.Lib.Pipeline.ValueKit

@[expose] public section

set_option maxRecDepth 16384

noncomputable section

namespace Cert.KernelIdeal.Point

open Cert.KernelIdeal Cert.KernelIdeal.Gen Idealize.ShloMosaic Idealize.ShloMosaic.TcCoe Idealize.SL.Sem
open Cert.Spec Cert.Soft Cert.KernelIdeal.Body Cert.KernelIdeal.Bias Cert.KernelIdeal.Attend

/-- Where each window stands at a grid point: block of queries, the three blocks of keys and of values, the context, the
    bias, the result. -/
theorem idx : ∀ t : Fin cfg0.N,
    win0_0.index t = ![4 + t.val % 4 * 32 + t.val % 128 / 4, t.val / 128]
    ∧ win0_1.index t = ![4 + t.val % 4 * 32 + min (t.val % 128 / 4 - 1) 29, t.val / 128]
    ∧ win0_2.index t = ![4 + t.val % 4 * 32 + min (t.val % 128 / 4 - 1) 29 + 1, t.val / 128]
    ∧ win0_3.index t = ![4 + t.val % 4 * 32 + min (t.val % 128 / 4 - 1) 29 + 2, t.val / 128]
    ∧ win0_4.index t = ![4 + t.val % 4 * 32 + min (t.val % 128 / 4 - 1) 29, t.val / 128]
    ∧ win0_5.index t = ![4 + t.val % 4 * 32 + min (t.val % 128 / 4 - 1) 29 + 1, t.val / 128]
    ∧ win0_6.index t = ![4 + t.val % 4 * 32 + min (t.val % 128 / 4 - 1) 29 + 2, t.val / 128]
    ∧ win0_7.index t = ![t.val % 4, t.val / 128]
    ∧ win0_8.index t = ![t.val % 4, t.val / 128]
    ∧ win0_9.index t = ![if t.val % 128 / 4 = 0 then 0 else if t.val % 128 / 4 = 31 then 2 else 1, t.val / 128, 0, 0]
    ∧ win0_10.index t = ![t.val % 4 * 32 + t.val % 128 / 4, t.val / 128]
    ∧ t.val < 512 :=
  (by decide +kernel : ∀ t : Fin grid0.N, _)

variable (m : (ℓ : Loc nD τ sig) → Buf (Elt Ideal) ℓ) (c : Dev nD)

/-- The queries, keys, values and biases. -/
abbrev Q : FVec Ideal S33792x512 .bf16 := m ((c : Thread nD τ).loc main_arg0)
abbrev K : FVec Ideal S33792x512 .bf16 := m ((c : Thread nD τ).loc main_arg1)
abbrev W : FVec Ideal S33792x512 .bf16 := m ((c : Thread nD τ).loc main_arg2)
abbrev R : FVec Ideal S8x15x31 .f32 := m ((c : Thread nD τ).loc main_arg3)

theorem rd2_idx {a b : ℕ} (x : (⟨2, ![a, b]⟩ : Shape).Idx → EReal) (j : (⟨2, ![a, b]⟩ : Shape).Idx) (n l : ℕ)
    (hn : (j 0 : ℕ) = n) (hl : (j 1 : ℕ) = l) : x j = rd2 x n l := by
  have e : j = ix2 (j 0) (j 1) := by
    funext a
    match a with
    | ⟨0, _⟩ => rfl
    | ⟨1, _⟩ => rfl
  rw [e]
  exact rd2_of x _ _ _ _ hn hl

variable (t : Fin cfg0.N)

theorem q_block : Block (iblk m c 0 t) (Q m c) (1024 + 8192 * (t.val % 4) + 256 * (t.val % 128 / 4)) (128 * (t.val / 128)) := by
  intro y d
  blk_simp [iblk]
  rw [V_main_arg0]
  refine rd2_idx _ _ _ _ ?_ ?_ <;> (blk_simp [idx t]; first | omega | (rw [firstKey]; omega))

theorem k1_block : Block (iblk m c 1 t) (K m c) (1024 + 8192 * (t.val % 4) + 64 * firstKey (t.val % 128 / 4)) (128 * (t.val / 128)) := by
  intro y d
  blk_simp [iblk]
  rw [V_main_arg1]
  refine rd2_idx _ _ _ _ ?_ ?_ <;> (blk_simp [idx t]; first | omega | (rw [firstKey]; omega))

theorem k2_block : Block (iblk m c 2 t) (K m c) (1024 + 8192 * (t.val % 4) + 64 * firstKey (t.val % 128 / 4) + 256) (128 * (t.val / 128)) := by
  intro y d
  blk_simp [iblk]
  rw [V_main_arg1]
  refine rd2_idx _ _ _ _ ?_ ?_ <;> (blk_simp [idx t]; first | omega | (rw [firstKey]; omega))

theorem k3_block : Block (iblk m c 3 t) (K m c) (1024 + 8192 * (t.val % 4) + 64 * firstKey (t.val % 128 / 4) + 512) (128 * (t.val / 128)) := by
  intro y d
  blk_simp [iblk]
  rw [V_main_arg1]
  refine rd2_idx _ _ _ _ ?_ ?_ <;> (blk_simp [idx t]; first | omega | (rw [firstKey]; omega))

theorem v1_block : Block (iblk m c 4 t) (W m c) (1024 + 8192 * (t.val % 4) + 64 * firstKey (t.val % 128 / 4)) (128 * (t.val / 128)) := by
  intro y d
  blk_simp [iblk]
  rw [V_main_arg2]
  refine rd2_idx _ _ _ _ ?_ ?_ <;> (blk_simp [idx t]; first | omega | (rw [firstKey]; omega))

theorem v2_block : Block (iblk m c 5 t) (W m c) (1024 + 8192 * (t.val % 4) + 64 * firstKey (t.val % 128 / 4) + 256) (128 * (t.val / 128)) := by
  intro y d
  blk_simp [iblk]
  rw [V_main_arg2]
  refine rd2_idx _ _ _ _ ?_ ?_ <;> (blk_simp [idx t]; first | omega | (rw [firstKey]; omega))

theorem v3_block : Block (iblk m c 6 t) (W m c) (1024 + 8192 * (t.val % 4) + 64 * firstKey (t.val % 128 / 4) + 512) (128 * (t.val / 128)) := by
  intro y d
  blk_simp [iblk]
  rw [V_main_arg2]
  refine rd2_idx _ _ _ _ ?_ ?_ <;> (blk_simp [idx t]; first | omega | (rw [firstKey]; omega))

theorem kc_block : Block (iblk m c 7 t) (K m c) (256 * (t.val % 4)) (128 * (t.val / 128)) := by
  intro y d
  blk_simp [iblk]
  rw [V_main_arg1]
  refine rd2_idx _ _ _ _ ?_ ?_ <;> (blk_simp [idx t]; first | omega | (rw [firstKey]; omega))

theorem vc_block : Block (iblk m c 8 t) (W m c) (256 * (t.val % 4)) (128 * (t.val / 128)) := by
  intro y d
  blk_simp [iblk]
  rw [V_main_arg2]
  refine rd2_idx _ _ _ _ ?_ ?_ <;> (blk_simp [idx t]; first | omega | (rw [firstKey]; omega))

theorem kind_val (i : ℕ) : (kind i : ℕ) = if i = 0 then 0 else if i = 31 then 2 else 1 := by
  rw [kind]
  split
  · rfl
  · split <;> rfl

/-- The bias block, as it is loaded for head `h` of the pair. -/
theorem bias_block (h : Fin 2) (y : Fin 256) (j : Fin 768) (g : Fin 8) (hg : (g : ℕ) = 2 * (t.val / 128) + h) :
    (if h = 0 then View.ld (iblk m c 9 t) r0_1 else View.ld (iblk m c 9 t) r0_2 : FVec Ideal S1x1x256x768 .f32) (ix4 0 0 y j)
      = bias (R m c) (ix4 (kind (t.val % 128 / 4)) g y j) := by
  have e : (V (F := Ideal) m c main_v173 : FVec Ideal S3x8x256x768 .f32) = bias (R m c) := entry m c
  rw [← e]
  have ek := kind_val (t.val % 128 / 4)
  match h, hg with
  | 0, hg =>
    show View.ld (iblk m c 9 t) r0_1 (ix4 0 0 y j) = _
    pointwise
    blk_ext [iblk, idx t]
  | 1, hg =>
    show View.ld (iblk m c 9 t) r0_2 (ix4 0 0 y j) = _
    pointwise
    blk_ext [iblk, idx t]

/-- The attention as the contents of the result array. -/
def G : FVec Ideal S32768x512 .bf16 := fun j =>
  result (Q m c) (K m c) (W m c) (R m c) ((j 0 : ℕ) / 8192) ((j 1 : ℕ) / 64) ((j 0 : ℕ) % 8192 / 64) ((j 0 : ℕ) % 64) ((j 1 : ℕ) % 64)

variable (hQ : ∀ i, Fin' (Q m c i)) (hK : ∀ i, Fin' (K m c i)) (hR : ∀ i, Fin' (R m c i))

theorem lane_of (l : Fin 128) : l = lane ⟨l / 64, by omega⟩ ⟨l % 64, by omega⟩ := Fin.ext (by simp only [lane]; omega)

include hQ hK hR in
theorem point (y : S256x128.Idx) :
    out0_10 (iblk m c 0 t) (iblk m c 1 t) (iblk m c 2 t) (iblk m c 3 t) (iblk m c 4 t) (iblk m c 5 t) (iblk m c 6 t) (iblk m c 7 t)
      (iblk m c 8 t) (iblk m c 9 t) y = G m c (((cfg0.win 10).blk t).view.emb y) := by
  idx_vars y
  have ht : t.val < 512 := (idx t).2.2.2.2.2.2.2.2.2.2.2
  frame_out
  rw [lane_of y1]
  refine (out_at _ _ _ _ _ _ _ _ _ (View.ld (iblk m c 9 t) r0_1) (View.ld (iblk m c 9 t) r0_2) y0 ⟨y1 / 64, by omega⟩ ⟨y1 % 64, by omega⟩).trans ?_
  simp only [bias_block m c t ⟨y1 / 64, by omega⟩ y0 _ ⟨2 * (t.val / 128) + y1 / 64, by omega⟩ rfl]
  refine (row_eq (t.val % 128 / 4) (by omega) (4 * (t.val % 128 / 4) + y0 / 64) (y0 % 64) (by omega) (by omega) (R m c)
    ⟨2 * (t.val / 128) + y1 / 64, by omega⟩ (Q m c) (K m c) (W m c) hQ hK hR (t.val % 4) (t.val / 128) (q_block m c t) (k1_block m c t)
    (k2_block m c t) (k3_block m c t) (v1_block m c t) (v2_block m c t) (v3_block m c t) (kc_block m c t) (vc_block m c t)
    ⟨y1 / 64, by omega⟩ rfl ⟨y1 % 64, by omega⟩ y0 (by omega)).trans ?_
  rw [G]
  blk_simp [idx t]
  simp only [lane]
  congr 1 <;> omega

include hQ hK hR in
/-- THE KERNEL'S RESULT. -/
theorem final : (dats m 0 c).arrAt 10 cfg0.N = G m c := by
  refine (dats m 0 c).arrAt_eq_of_covers 10 _ (by decide +kernel) fun t _ y => ?_
  blk_simp
  rw [after0_10]
  exact point m c t hQ hK hR y

end Cert.KernelIdeal.Point

end
-- ==== Proof.Windows.lean ====
/- The plain reference's windows: the row and column words of its gathers, and what the gathers read. -/
module

public import proofs.«01_k».proof.Proof.Gen.ReferenceIdeal.Read
public import proofs.«01_k».proof.Proof.Gather
public import proofs.«01_k».proof.Proof.Spec

@[expose] public section

set_option maxRecDepth 16384

noncomputable section

namespace Cert.ReferenceIdeal.Windows

open Cert.ReferenceIdeal Cert.ReferenceIdeal.Gen Cert.ReferenceIdeal.Read Idealize.ShloMosaic Idealize.ShloMosaic.TcCoe Idealize.SL.Sem
open Cert.Spec

/-- A small word is not negative. -/
theorem not_neg : ∀ n : Fin 200, IntOp.cmpi .slt (BitVec.ofNat 32 n) 0#32 = 0#1 := by decide +kernel

theorem toNat_small : ∀ n : Fin 200, (BitVec.ofNat 32 n).toInt.toNat = n := by decide +kernel

/-- An index word is kept as it is where it is not negative. -/
theorem keep (n : ℕ) (hn : n < 200) (x : BitVec 32) :
    Scalar.select (IntOp.cmpi .slt (BitVec.ofNat 32 n) 0#32) x (BitVec.ofNat 32 n) = BitVec.ofNat 32 n := by
  rw [not_neg ⟨n, hn⟩]; rfl

theorem v45_at (r : Fin 128) (i : Fin 8) : val_main_v45 (F := Ideal) (ix2 r i) = BitVec.ofNat 32 (r0 r + i) := by
  pointwise [val_main_v45, val_main_v43, val_main_v44, val_main_v42, val_main_v41, val_main_v40, val_main_v39, val_main_call1_v4,
    val_main_call1_v3, val_main_call1_v2, val_main_call1_v1, val_main_call1_v0, val_main_c_5, val_main_c_4, val_main_v38, val_main_v37,
    val_main_v36, val_main_c_3]
  revert r i
  decide +kernel

theorem v50_at (r : Fin 128) (i : Fin 8) : val_main_v50 (F := Ideal) (ix2 r i) = BitVec.ofNat 32 (r0 r + i + 7 - r) := by
  pointwise [val_main_v50, val_main_v49, val_main_v48, val_main_v47, val_main_v46, val_main_v36, val_main_c_6, v45_at]
  revert r i
  decide +kernel

theorem v30_at (w : Fin 64) (j : Fin 16) : val_main_v30 (F := Ideal) (ix2 w j) = BitVec.ofNat 32 (c0 w + j) := by
  pointwise [val_main_v30, val_main_v29, val_main_v28, val_main_v27, val_main_v26, val_main_v25, val_main_v24, val_main_call0_v4,
    val_main_call0_v3, val_main_call0_v2, val_main_call0_v1, val_main_call0_v0, val_main_c_1, val_main_c_0, val_main_v23, val_main_v22,
    val_main_v21, val_main_c]
  revert w j
  decide +kernel

theorem v35_at (w : Fin 64) (j : Fin 16) : val_main_v35 (F := Ideal) (ix2 w j) = BitVec.ofNat 32 (c0 w + j + 15 - w) := by
  pointwise [val_main_v35, val_main_v34, val_main_v33, val_main_v32, val_main_v31, val_main_v21, val_main_c_2, v30_at]
  revert w j
  decide +kernel

theorem r0_lt (r : Fin 128) (i : Fin 8) : r0 r + i < 128 := by unfold r0; omega
theorem c0_lt (w : Fin 64) (j : Fin 16) : c0 w + j < 64 := by unfold c0; omega
theorem dr_lt (r : Fin 128) (i : Fin 8) : r0 r + i + 7 - r < 15 := by unfold r0; omega
theorem dc_lt (w : Fin 64) (j : Fin 16) : c0 w + j + 15 - w < 31 := by unfold c0; omega

theorem v67_row (r : Fin 128) (w : Fin 64) (i : Fin 8) (j : Fin 16) :
    val_main_v67 (F := Ideal) (ix5 r w i j 0) = BitVec.ofNat 32 (r0 r + i) := by
  pointwise [val_main_v67, val_main_v65, val_main_v63, val_main_v57, val_main_v54, val_main_v53, val_main_v51, val_main_c_7, v45_at]
  exact keep _ (by have := r0_lt r i; omega) _

theorem v67_col (r : Fin 128) (w : Fin 64) (i : Fin 8) (j : Fin 16) :
    val_main_v67 (F := Ideal) (ix5 r w i j 1) = BitVec.ofNat 32 (c0 w + j) := by
  pointwise [val_main_v67, val_main_v66, val_main_v64, val_main_v62, val_main_v59, val_main_v58, val_main_v52, val_main_c_9, v30_at]
  exact keep _ (by have := c0_lt w j; omega) _

theorem v85_row (r : Fin 128) (w : Fin 64) (i : Fin 8) (j : Fin 16) :
    val_main_v85 (F := Ideal) (ix5 r w i j 0) = BitVec.ofNat 32 (r0 r + i) := by
  pointwise [val_main_v85, val_main_v83, val_main_v81, val_main_v75, val_main_v72, val_main_v71, val_main_v69, val_main_c_11, v45_at]
  exact keep _ (by have := r0_lt r i; omega) _

theorem v85_col (r : Fin 128) (w : Fin 64) (i : Fin 8) (j : Fin 16) :
    val_main_v85 (F := Ideal) (ix5 r w i j 1) = BitVec.ofNat 32 (c0 w + j) := by
  pointwise [val_main_v85, val_main_v84, val_main_v82, val_main_v80, val_main_v77, val_main_v76, val_main_v70, val_main_c_13, v30_at]
  exact keep _ (by have := c0_lt w j; omega) _

theorem v103_row (r : Fin 128) (w : Fin 64) (i : Fin 8) (j : Fin 16) :
    val_main_v103 (F := Ideal) (ix5 r w i j 0) = BitVec.ofNat 32 (r0 r + i + 7 - r) := by
  pointwise [val_main_v103, val_main_v101, val_main_v99, val_main_v93, val_main_v90, val_main_v89, val_main_v87, val_main_c_15, v50_at]
  exact keep _ (by have := dr_lt r i; omega) _

theorem v103_col (r : Fin 128) (w : Fin 64) (i : Fin 8) (j : Fin 16) :
    val_main_v103 (F := Ideal) (ix5 r w i j 1) = BitVec.ofNat 32 (c0 w + j + 15 - w) := by
  pointwise [val_main_v103, val_main_v102, val_main_v100, val_main_v98, val_main_v95, val_main_v94, val_main_v88, val_main_c_17, v35_at]
  exact keep _ (by have := dc_lt w j; omega) _

theorem gather_k {α : Type} (x : S4x8x128x64x64.Idx → α) (idx : IVec S128x64x8x16x2 32) (y : S4x8x128x64x8x16x64.Idx) :
    Host.gather gather_S4x8x128x64x64_S128x64x8x16x2_S4x8x128x64x8x16x64_016_23_n_n_23_4_481164 x idx y
      = x (ix5 (y 0) (y 1) ⟨min (idx (ix5 (y 2) (y 3) (y 4) (y 5) 0)).toInt.toNat 127, by omega⟩
          ⟨min (idx (ix5 (y 2) (y 3) (y 4) (y 5) 1)).toInt.toNat 63, by omega⟩ (y 6)) := by
  unfold Host.gather
  congr 1
  funext a
  refine Fin.ext ?_
  match a with
  | ⟨0, _⟩ => exact Gather.whole_axis _ y idx 0 (by decide) (by decide) (by decide) 0 (by decide)
  | ⟨1, _⟩ => exact Gather.whole_axis _ y idx 1 (by decide) (by decide) (by decide) 1 (by decide)
  | ⟨2, _⟩ =>
    refine Gather.word_axis _ y idx 2 (by decide) (by decide) (by decide) _ ?_
    funext b
    refine Fin.ext ?_
    match b with
    | ⟨0, _⟩ => rfl
    | ⟨1, _⟩ => rfl
    | ⟨2, _⟩ => rfl
    | ⟨3, _⟩ => rfl
    | ⟨4, _⟩ => rfl
  | ⟨3, _⟩ =>
    refine Gather.word_axis _ y idx 3 (by decide) (by decide) (by decide) _ ?_
    funext b
    refine Fin.ext ?_
    match b with
    | ⟨0, _⟩ => rfl
    | ⟨1, _⟩ => rfl
    | ⟨2, _⟩ => rfl
    | ⟨3, _⟩ => rfl
    | ⟨4, _⟩ => rfl
  | ⟨4, _⟩ => exact Gather.whole_axis _ y idx 4 (by decide) (by decide) (by decide) 6 (by decide)

theorem gather_b {α : Type} (x : S8x15x31.Idx → α) (idx : IVec S128x64x8x16x2 32) (y : S8x128x64x8x16.Idx) :
    Host.gather gather_S8x15x31_S128x64x8x16x2_S8x128x64x8x16_0_12_n_n_12_4_811 x idx y
      = x (ix3 (y 0) ⟨min (idx (ix5 (y 1) (y 2) (y 3) (y 4) 0)).toInt.toNat 14, by omega⟩
          ⟨min (idx (ix5 (y 1) (y 2) (y 3) (y 4) 1)).toInt.toNat 30, by omega⟩) := by
  unfold Host.gather
  congr 1
  funext a
  refine Fin.ext ?_
  match a with
  | ⟨0, _⟩ => exact Gather.whole_axis _ y idx 0 (by decide) (by decide) (by decide) 0 (by decide)
  | ⟨1, _⟩ =>
    refine Gather.word_axis _ y idx 1 (by decide) (by decide) (by decide) _ ?_
    funext b
    refine Fin.ext ?_
    match b with
    | ⟨0, _⟩ => rfl
    | ⟨1, _⟩ => rfl
    | ⟨2, _⟩ => rfl
    | ⟨3, _⟩ => rfl
    | ⟨4, _⟩ => rfl
  | ⟨2, _⟩ =>
    refine Gather.word_axis _ y idx 2 (by decide) (by decide) (by decide) _ ?_
    funext b
    refine Fin.ext ?_
    match b with
    | ⟨0, _⟩ => rfl
    | ⟨1, _⟩ => rfl
    | ⟨2, _⟩ => rfl
    | ⟨3, _⟩ => rfl
    | ⟨4, _⟩ => rfl

variable (x0 x1 x2 : FVec Ideal S33792x512 .bf16) (x3 : FVec Ideal S8x15x31 .f32)

theorem v18_at (b : Fin 4) (h : Fin 8) (r : Fin 128) (w d : Fin 64) :
    val_main_v18 (F := Ideal) x0 (ix5 b h r w d) = rd2 x0 (1024 + 8192 * b + 64 * r + w) (64 * h + d) := by
  pointwise [val_main_v18, val_main_v5, val_main_v4, val_main_v3, val_main_v0]
  exact rd2_of x0 _ _ _ _ (by dsimp only; omega) (by dsimp only; omega)

theorem v19_at (b : Fin 4) (h : Fin 8) (r : Fin 128) (w d : Fin 64) :
    val_main_v19 (F := Ideal) x1 (ix5 b h r w d) = rd2 x1 (1024 + 8192 * b + 64 * r + w) (64 * h + d) := by
  pointwise [val_main_v19, val_main_v8, val_main_v7, val_main_v6, val_main_v1]
  exact rd2_of x1 _ _ _ _ (by dsimp only; omega) (by dsimp only; omega)

theorem v20_at (b : Fin 4) (h : Fin 8) (r : Fin 128) (w d : Fin 64) :
    val_main_v20 (F := Ideal) x2 (ix5 b h r w d) = rd2 x2 (1024 + 8192 * b + 64 * r + w) (64 * h + d) := by
  pointwise [val_main_v20, val_main_v11, val_main_v10, val_main_v9, val_main_v2]
  exact rd2_of x2 _ _ _ _ (by dsimp only; omega) (by dsimp only; omega)

theorem v14_at (b : Fin 4) (h : Fin 8) (j : Fin 256) (d : Fin 64) :
    val_main_v14 (F := Ideal) x1 (ix4 b h j d) = rd2 x1 (256 * b + j) (64 * h + d) := by
  pointwise [val_main_v14, val_main_v13, val_main_v12, val_main_v1]
  exact rd2_of x1 _ _ _ _ (by dsimp only; omega) (by dsimp only; omega)

theorem v17_at (b : Fin 4) (h : Fin 8) (j : Fin 256) (d : Fin 64) :
    val_main_v17 (F := Ideal) x2 (ix4 b h j d) = rd2 x2 (256 * b + j) (64 * h + d) := by
  pointwise [val_main_v17, val_main_v16, val_main_v15, val_main_v2]
  exact rd2_of x2 _ _ _ _ (by dsimp only; omega) (by dsimp only; omega)

theorem clamp (n m : ℕ) (hn : n ≤ m) (hm : m < 200) : min (BitVec.ofNat 32 n).toInt.toNat m = n := by
  rw [toNat_small ⟨n, by omega⟩]
  exact min_eq_left hn

theorem v68_at (b : Fin 4) (h : Fin 8) (r : Fin 128) (w : Fin 64) (i : Fin 8) (j : Fin 16) (d : Fin 64)
    (y : S4x8x128x64x8x16x64.Idx) (e : y = ix7 b h r w i j d) :
    val_main_v68 (F := Ideal) x1 y = rd2 x1 (1024 + 8192 * b + 64 * (r0 r + i) + (c0 w + j)) (64 * h + d) := by
  subst e
  unfold val_main_v68
  rw [gather_k]
  refine (v19_at x1 b h _ _ d).trans ?_
  refine congrArg (fun n => rd2 x1 n _) (congrArg₂ (fun m n => 1024 + 8192 * (b : ℕ) + 64 * m + n) ?_ ?_)
  · exact (congrArg (fun t : BitVec 32 => min t.toInt.toNat 127) (v67_row r w i j)).trans
      (clamp _ _ (by have := r0_lt r i; omega) (by omega))
  · exact (congrArg (fun t : BitVec 32 => min t.toInt.toNat 63) (v67_col r w i j)).trans
      (clamp _ _ (by have := c0_lt w j; omega) (by omega))

theorem v86_at (b : Fin 4) (h : Fin 8) (r : Fin 128) (w : Fin 64) (i : Fin 8) (j : Fin 16) (d : Fin 64) :
    val_main_v86 (F := Ideal) x2 (ix7 b h r w i j d)
      = rd2 x2 (1024 + 8192 * b + 64 * (r0 r + i) + (c0 w + j)) (64 * h + d) := by
  unfold val_main_v86
  rw [gather_k]
  refine (v20_at x2 b h _ _ d).trans ?_
  refine congrArg (fun n => rd2 x2 n _) (congrArg₂ (fun m n => 1024 + 8192 * (b : ℕ) + 64 * m + n) ?_ ?_)
  · exact (congrArg (fun t : BitVec 32 => min t.toInt.toNat 127) (v85_row r w i j)).trans
      (clamp _ _ (by have := r0_lt r i; omega) (by omega))
  · exact (congrArg (fun t : BitVec 32 => min t.toInt.toNat 63) (v85_col r w i j)).trans
      (clamp _ _ (by have := c0_lt w j; omega) (by omega))

theorem v104_at (h : Fin 8) (r : Fin 128) (w : Fin 64) (i : Fin 8) (j : Fin 16) :
    val_main_v104 (F := Ideal) x3 (ix5 h r w i j) = rd3 x3 h (r0 r + i + 7 - r) (c0 w + j + 15 - w) := by
  unfold val_main_v104
  rw [gather_b]
  refine rd3_of x3 _ _ _ _ _ _ rfl ?_ ?_
  · exact (congrArg (fun t : BitVec 32 => min t.toInt.toNat 14) (v103_row r w i j)).trans
      (clamp _ _ (by have := dr_lt r i; omega) (by omega))
  · exact (congrArg (fun t : BitVec 32 => min t.toInt.toNat 30) (v103_col r w i j)).trans
      (clamp _ _ (by have := dc_lt w j; omega) (by omega))

/-- The window's scores. -/
theorem v108_at (b : Fin 4) (h : Fin 8) (r : Fin 128) (w : Fin 64) (i : Fin 8) (j : Fin 16) :
    val_main_v108 (F := Ideal) x0 x1 x3 (ix6 b h r w i j) = winScore x0 x1 x3 b h r w (i, j) := by
  pointwise [val_main_v108, val_main_v107, val_main_v106]
  rw [val_main_v105_apply]
  refine congrArg₂ (· + ·) (Finset.sum_congr rfl fun d _ => congrArg₂ (· * ·) ?_ ?_) ?_
  · refine Eq.trans (congrArg _ ?_) (v18_at x0 b h r w d)
    funext a
    match a with
    | ⟨0, _⟩ => rfl
    | ⟨1, _⟩ => rfl
    | ⟨2, _⟩ => rfl
    | ⟨3, _⟩ => rfl
    | ⟨4, _⟩ => rfl
  · refine v68_at x1 b h r w i j d _ ?_
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · exact v104_at x3 h r w i j

/-- The context's scores. -/
theorem v110_at (b : Fin 4) (h : Fin 8) (r : Fin 128) (w : Fin 64) (j : Fin 256) :
    val_main_v110 (F := Ideal) x0 x1 (ix5 b h r w j) = ctxScore x0 x1 b h r w j := by
  pointwise [val_main_v110]
  simp only [v18_at, v14_at]
  rfl

end Cert.ReferenceIdeal.Windows

end
-- ==== Proof.RefValue.lean ====
/- What the plain reference computes at one token, head and dimension: the formula `Spec.result`. -/
module

public import proofs.«01_k».proof.Proof.Windows

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Cert.Spec Cert.Soft Cert.ReferenceIdeal.Windows

/-- The window's scores, row by row, followed by the context's. -/
def cat (S : Fin 8 × Fin 16 → EReal) (C : Fin 256 → EReal) (k : Fin 384) : EReal :=
  if h : (k : ℕ) < 128 then S (⟨k / 16, by omega⟩, ⟨k % 16, by omega⟩) else C ⟨k - 128, by omega⟩

/-- The place in that row of a window place or of a context token. -/
def place : (Fin 8 × Fin 16) ⊕ Fin 256 ≃ Fin 384 where
  toFun x := match x with
    | .inl (i, j) => ⟨i * 16 + j, by omega⟩
    | .inr c => ⟨128 + c, by omega⟩
  invFun k := if h : (k : ℕ) < 128 then .inl (⟨k / 16, by omega⟩, ⟨k % 16, by omega⟩) else .inr ⟨k - 128, by omega⟩
  left_inv x := by
    rcases x with ⟨i, j⟩ | c
    · have h : (i : ℕ) * 16 + j < 128 := by omega
      simp only [dif_pos h]
      exact congrArg Sum.inl (Prod.ext (Fin.ext (by dsimp only; omega)) (Fin.ext (by dsimp only; omega)))
    · simp
  right_inv k := by
    by_cases h : (k : ℕ) < 128
    · simp only [dif_pos h]
      exact Fin.ext (by dsimp only; omega)
    · simp only [dif_neg h]
      exact Fin.ext (by dsimp only; omega)

variable (S : Fin 8 × Fin 16 → EReal) (C : Fin 256 → EReal)

theorem cat_inl (i : Fin 8) (j : Fin 16) : cat S C (place (.inl (i, j))) = S (i, j) := by
  have h : ((⟨i * 16 + j, by omega⟩ : Fin 384) : ℕ) < 128 := by dsimp only; omega
  show cat S C ⟨i * 16 + j, by omega⟩ = _
  rw [cat, dif_pos h]
  exact congrArg S (Prod.ext (Fin.ext (by dsimp only; omega)) (Fin.ext (by dsimp only; omega)))

theorem cat_inr (c : Fin 256) : cat S C (place (.inr c)) = C c := by
  show cat S C ⟨128 + c, by omega⟩ = _
  rw [cat, dif_neg (by dsimp only; omega)]
  exact congrArg C (Fin.ext (by dsimp only; omega))

/-- A sum over the whole row, in its two parts. -/
theorem sum_cat (f : EReal → EReal) : ∑ k, f (cat S C k) = ∑ x, f (S x) + ∑ c, f (C c) := by
  rw [← Equiv.sum_comp place, Fintype.sum_sum_type]
  simp only [cat_inr]
  exact congrArg (· + _) (Finset.sum_congr rfl fun x _ => congrArg f (cat_inl S C x.1 x.2))

/-- The largest of the whole row, in its two parts. -/
theorem sup_cat : Finset.univ.sup (cat S C) = max (Finset.univ.sup S) (Finset.univ.sup C) := by
  apply le_antisymm
  · refine Finset.sup_le fun k _ => ?_
    rw [cat]
    split
    · exact le_max_of_le_left (Finset.le_sup (f := S) (Finset.mem_univ _))
    · exact le_max_of_le_right (Finset.le_sup (f := C) (Finset.mem_univ _))
  · refine max_le (Finset.sup_le fun x _ => ?_) (Finset.sup_le fun c _ => ?_)
    · rw [← cat_inl S C x.1 x.2]; exact Finset.le_sup (f := cat S C) (Finset.mem_univ _)
    · rw [← cat_inr S C c]; exact Finset.le_sup (f := cat S C) (Finset.mem_univ _)

theorem bot_word : Ideal.ofBits FTy.f32 0xFF800000#32 = (⊥ : EReal) := by
  decide +kernel

/-- The largest of a list, taken from below and then held against the lowest value, is its supremum. -/
theorem top_of_fold {n : ℕ} (f : Fin n → EReal) :
    max (Ideal.ofBits FTy.f32 0xFF800000#32) (Finset.fold max (Ideal.ofBits FTy.f32 0xFF800000#32) f Finset.univ) = Finset.univ.sup f := by
  rw [bot_word]
  exact max_eq_right bot_le

/-- A double sum, columns first, as one sum over the window. -/
theorem sum_window (f : Fin 8 × Fin 16 → EReal) : ∑ j : Fin 16, ∑ i : Fin 8, f (i, j) = ∑ x, f x := by
  rw [Finset.sum_comm]
  exact (Fintype.sum_prod_type _).symm

variable (x0 x1 x2 : FVec Ideal S33792x512 .bf16) (x3 : FVec Ideal S8x15x31 .f32)
variable (b : Fin 4) (h : Fin 8) (r : Fin 128) (w : Fin 64)

/-- The row of scores. -/
theorem v111_at (k : Fin 384) : val_main_v111 (F := Ideal) x0 x1 x3 (ix5 b h r w k)
    = cat (winScore x0 x1 x3 b h r w) (ctxScore x0 x1 b h r w) k := by
  pointwise [val_main_v111, val_main_v109]
  rw [cat]
  split
  · exact v108_at x0 x1 x3 b h r w _ _
  · exact v110_at x0 x1 b h r w _

/-- The row's largest score. -/
def top : EReal := max (Finset.univ.sup (winScore x0 x1 x3 b h r w)) (Finset.univ.sup (ctxScore x0 x1 b h r w))

theorem v112_at : val_main_v112 (F := Ideal) x0 x1 x3 (ix4 b h r w)
    = Finset.fold max (Ideal.ofBits FTy.f32 0xFF800000#32) (cat (winScore x0 x1 x3 b h r w) (ctxScore x0 x1 b h r w)) Finset.univ := by
  pointwise [val_main_v112, val_main_cst]
  exact congrArg (fun f => Finset.fold max (Ideal.ofBits FTy.f32 0xFF800000#32) f Finset.univ)
    (funext fun k => v111_at x0 x1 x3 b h r w k)

theorem v114_at : val_main_v114 (F := Ideal) x0 x1 x3 (ix4 b h r w) = top x0 x1 x3 b h r w := by
  rw [val_main_v114_apply, val_main_v113_apply, v112_at, top, ← sup_cat]
  exact top_of_fold _

theorem v118_at (k : Fin 384) : val_main_v118 (F := Ideal) x0 x1 x3 (ix5 b h r w k)
    = Ideal.exp (cat (winScore x0 x1 x3 b h r w) (ctxScore x0 x1 b h r w) k - top x0 x1 x3 b h r w) := by
  pointwise [val_main_v118, val_main_v117, val_main_v116, val_main_v115, v111_at, v114_at]

/-- The softmax's denominator. -/
def den : EReal := (∑ x, Ideal.exp (winScore x0 x1 x3 b h r w x - top x0 x1 x3 b h r w))
  + ∑ c, Ideal.exp (ctxScore x0 x1 b h r w c - top x0 x1 x3 b h r w)

theorem v122_at (k : Fin 384) : val_main_v122 (F := Ideal) x0 x1 x3 (ix5 b h r w k)
    = Ideal.div (Ideal.exp (cat (winScore x0 x1 x3 b h r w) (ctxScore x0 x1 b h r w) k - top x0 x1 x3 b h r w))
        (den x0 x1 x3 b h r w) := by
  pointwise [val_main_v122, val_main_v121, val_main_v120, val_main_v119, val_main_cst_20, v118_at]
  rw [sum_cat _ _ fun s => Ideal.exp (s - top x0 x1 x3 b h r w)]
  rfl

theorem v124_at (i : Fin 8) (j : Fin 16) : val_main_v124 (F := Ideal) x0 x1 x3 (ix6 b h r w i j)
    = Ideal.div (Ideal.exp (winScore x0 x1 x3 b h r w (i, j) - top x0 x1 x3 b h r w)) (den x0 x1 x3 b h r w) := by
  pointwise [val_main_v124, val_main_v123]
  rw [← cat_inl (winScore x0 x1 x3 b h r w) (ctxScore x0 x1 b h r w) i j]
  exact v122_at x0 x1 x3 b h r w _

theorem v125_at (c : Fin 256) : val_main_v125 (F := Ideal) x0 x1 x3 (ix5 b h r w c)
    = Ideal.div (Ideal.exp (ctxScore x0 x1 b h r w c - top x0 x1 x3 b h r w)) (den x0 x1 x3 b h r w) := by
  pointwise [val_main_v125]
  rw [← cat_inr (winScore x0 x1 x3 b h r w) (ctxScore x0 x1 b h r w) c]
  exact v122_at x0 x1 x3 b h r w _

/-- The window's part of the output. -/
theorem v126_at (d : Fin 64) : val_main_v126 (F := Ideal) x0 x1 x2 x3 (ix5 b h r w d)
    = ∑ x : Fin 8 × Fin 16, Ideal.div (Ideal.exp (winScore x0 x1 x3 b h r w x - top x0 x1 x3 b h r w)) (den x0 x1 x3 b h r w)
        * rd2 x2 (1024 + 8192 * b + 64 * (r0 r + x.1) + (c0 w + x.2)) (64 * h + d) := by
  rw [← sum_window]
  pointwise [val_main_v126]
  refine Finset.sum_congr rfl fun j _ => Finset.sum_congr rfl fun i _ => ?_
  exact congrArg₂ (· * ·) (v124_at x0 x1 x3 b h r w i j) (v86_at x2 b h r w i j d)

/-- The context's part of the output. -/
theorem v127_at (d : Fin 64) : val_main_v127 (F := Ideal) x0 x1 x2 x3 (ix5 b h r w d)
    = ∑ c : Fin 256, Ideal.div (Ideal.exp (ctxScore x0 x1 b h r w c - top x0 x1 x3 b h r w)) (den x0 x1 x3 b h r w)
        * rd2 x2 (256 * b + c) (64 * h + d) := by
  pointwise [val_main_v127]
  refine Finset.sum_congr rfl fun c _ => ?_
  exact congrArg₂ (· * ·) (v125_at x0 x1 x3 b h r w c) (v17_at x2 b h c d)

theorem v128_at (d : Fin 64) : val_main_v128 (F := Ideal) x0 x1 x2 x3 (ix5 b h r w d) = result x0 x1 x2 x3 b h r w d := by
  rw [val_main_v128_apply, v126_at, v127_at]
  rfl

/-- THE REFERENCE at token `(r, w)` of sample `b`, dimension `d` of head `h`. -/
theorem out_at (d : Fin 64) (n : Fin 32768) (l : Fin 512) (hn : (n : ℕ) = 8192 * b + 64 * r + w) (hl : (l : ℕ) = 64 * h + d) :
    val_main_v132 (F := Ideal) x0 x1 x2 x3 (ix2 n l) = result x0 x1 x2 x3 b h r w d := by
  pointwise [val_main_v132, val_main_v131, val_main_v130, val_main_v129]
  refine Eq.trans (congrArg _ ?_) (v128_at x0 x1 x2 x3 b h r w d)
  have h8 := b.isLt
  have h6 := r.isLt
  idx_ext <;> (dsimp only; omega)

end Cert.ReferenceIdeal.RefValue

end
-- ==== Proof.Finite.lean ====
/- The precondition, read back: every query, key and bias is a real number. -/
module

public import proofs.«01_k».proof.Proof.Gen.Pre_finite_scores
public import proofs.«01_k».proof.Proof.Soft
public import Idealize.ShloMosaic.Lib.ReduceAll
public import Idealize.ShloMosaic.Lib.Pipeline.ValueKit

@[expose] public section

set_option maxRecDepth 16384

noncomputable section

namespace Cert.Finite

open Idealize.ShloMosaic Cert.Pre_finite_scores Cert.Soft

/-- A number whose absolute value lies below +∞ is real. -/
theorem fin_of_lt (x : EReal) (h : Ideal.cmp CmpFPredicate.olt (max x (-x)) (Ideal.ofBits FTy.f32 0x7F800000#32) = 1#1) : Fin' x := by
  have e : Ideal.ofBits FTy.f32 0x7F800000#32 = (⊤ : EReal) := by decide +kernel
  rw [e] at h
  induction x using EReal.rec with
  | bot => simp [Ideal.cmp] at h
  | coe r => exact ⟨r, rfl⟩
  | top => simp [Ideal.cmp] at h

theorem read (x0 x1 x2 : FVec Ideal S33792x512 .bf16) (x3 : FVec Ideal S8x15x31 .f32)
    (h : fn (F := Ideal) x0 x1 x2 x3 = fun _ => 1#1) :
    (∀ i, Fin' (x0 i)) ∧ (∀ i, Fin' (x1 i)) ∧ ∀ i, Fin' (x3 i) := by
  have hs : Subsingleton S_.Idx := ⟨fun a b => funext fun i => i.elim0⟩
  have h0 := congrFun h (fun a => a.elim0)
  dsimp only [fn] at h0
  have h1 := IntOp.andi_eq_one.1 h0
  have h2 := IntOp.andi_eq_one.1 h1.1
  refine ⟨fun i => ?_, fun i => ?_, fun i => ?_⟩
  · exact fin_of_lt _ (Host.reduce_andi_all _ _ _ _ _ h2.1 i)
  · exact fin_of_lt _ (Host.reduce_andi_all _ _ _ _ _ h2.2 i)
  · exact fin_of_lt _ (Host.reduce_andi_all _ _ _ _ _ h1.2 i)

end Cert.Finite

end
-- ==== Proof.ProjSpec.lean ====
/- The modulated activations, their projection, and the gate, as formulas over the argument arrays. -/
module

public import proofs.«01_k».proof.Proof.Spec

@[expose] public section

noncomputable section

namespace Cert.ProjSpec

open Idealize.ShloMosaic Cert.Spec

/-- The row of the modulation tables that a token uses: row 4 for the context tokens, its sample's row for the rest. -/
def group (n : ℕ) : ℕ := if n < 1024 then 4 else (n - 1024) / 8192

theorem rd2_ix {a b : ℕ} (x : (⟨2, ![a, b]⟩ : Shape).Idx → EReal) (i : (⟨2, ![a, b]⟩ : Shape).Idx) (n k : ℕ)
    (h0 : (i 0 : ℕ) = n) (h1 : (i 1 : ℕ) = k) : x i = rd2 x n k := by
  rw [eq_ix2 i]
  exact rd2_of x _ _ n k h0 h1

theorem rd3_ix {a b c : ℕ} (x : (⟨3, ![a, b, c]⟩ : Shape).Idx → EReal) (i : (⟨3, ![a, b, c]⟩ : Shape).Idx) (n k l : ℕ)
    (h0 : (i 0 : ℕ) = n) (h1 : (i 1 : ℕ) = k) (h2 : (i 2 : ℕ) = l) : x i = rd3 x n k l := by
  rw [eq_ix3 i]
  exact rd3_of x _ _ _ n k l h0 h1 h2

/-- All of one block's rows use the same row of the tables. -/
theorem group_block (i y : ℕ) (h : y < 512) : group (512 * i + y) = group (512 * i) := by
  unfold group
  split <;> split <;> omega

variable (x : (⟨2, ![33792, 1024]⟩ : Shape).Idx → EReal) (sc sh : (⟨3, ![8, 1, 1024]⟩ : Shape).Idx → EReal)

/-- The modulated activation of a token. -/
def act (n k : ℕ) : EReal :=
  rd2 x n k * (Ideal.ofBits .f32 0x3F800000#32 + rd3 sc (group n) 0 k) + rd3 sh (group n) 0 k

/-- One column of the projection of a token's modulated activations. -/
def proj {b : ℕ} (w : (⟨2, ![1024, b]⟩ : Shape).Idx → EReal) (n l : ℕ) : EReal :=
  ∑ k : Fin 1024, act x sc sh n k * rd2 w k l

/-- The columns of the projection from `o` on, as an array. -/
def slab {b c : ℕ} (w : (⟨2, ![1024, b]⟩ : Shape).Idx → EReal) (o : ℕ) (j : (⟨2, ![33792, c]⟩ : Shape).Idx) : EReal :=
  proj x sc sh w (j 0) (o + j 1)

theorem slab_at {b c : ℕ} (w : (⟨2, ![1024, b]⟩ : Shape).Idx → EReal) (o n l : ℕ) (j : (⟨2, ![33792, c]⟩ : Shape).Idx) (h0 : (j 0 : ℕ) = n)
    (h1 : (j 1 : ℕ) = l) : proj x sc sh w n (o + l) = slab x sc sh w o j := by
  subst h0 h1
  rfl

/-- The factor on the queries and on the gate, one eighth. -/
def eighth : EReal := Ideal.ofBits .f32 0x3E000000#32

/-- The gate. -/
def silu (y : EReal) : EReal := y * Ideal.logistic y

end Cert.ProjSpec

end
-- ==== Proof.EvenPoint.lean ====
/- What the even layers' input projection leaves in its results, result by result. -/
module

public import proofs.«01_k».proof.Proof.Gen.EvenProjIdeal.Value
public import proofs.«01_k».proof.Proof.ProjSpec
public import Idealize.ShloMosaic.Lib.Pipeline.ValueKit

@[expose] public section

set_option maxRecDepth 16384

noncomputable section

namespace Cert.EvenProjIdeal.Point

open Cert.EvenProjIdeal Cert.EvenProjIdeal.Gen Idealize.ShloMosaic Idealize.ShloMosaic.TcCoe Idealize.SL.Sem
open Cert.Spec Cert.ProjSpec

/-- Where each window stands at a grid point. -/
theorem idx : ∀ t : Fin cfg0.N,
    win0_0.index t = ![t.val, 0] ∧ win0_1.index t = ![group (512 * t.val), 0, 0] ∧ win0_2.index t = ![group (512 * t.val), 0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ t.val < 66 :=
  (by decide +kernel : ∀ t : Fin grid0.N,
    win0_0.index t = ![t.val, 0] ∧ win0_1.index t = ![group (512 * t.val), 0, 0] ∧ win0_2.index t = ![group (512 * t.val), 0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ t.val < 66)

variable (m : (ℓ : Loc nD τ sig) → Buf (Elt Ideal) ℓ) (c : Dev nD) (t : Fin cfg0.N)

/-- The activations. -/
abbrev X : FVec Ideal S33792x1024 .f32 := m ((c : Thread nD τ).loc main_arg0)
/-- The scales. -/
abbrev SC : FVec Ideal S8x1x1024 .f32 := m ((c : Thread nD τ).loc main_arg1)
/-- The shifts. -/
abbrev SH : FVec Ideal S8x1x1024 .f32 := m ((c : Thread nD τ).loc main_arg2)
/-- The weight. -/
abbrev W : FVec Ideal S1024x4096 .f32 := m ((c : Thread nD τ).loc main_arg3)

theorem entry : (V (F := Ideal) m c main_v0 : FVec Ideal S1024x4096 .bf16) = W m c := by
  entry_read
  rfl

theorem act_at (y : Fin 512) (k : Fin 1024) :
    (k0_pay6 (iblk m c 0 t) (iblk m c 1 t) (iblk m c 2 t) : FVec Ideal S512x1024 .bf16) (ix2 y k)
      = act (X m c) (SC m c) (SH m c) (512 * t.val + y) k := by
  have hx : (iblk m c 0 t : FVec Ideal S512x1024 .f32) (ix2 y k) = rd2 (X m c) (512 * t.val + y) k := by
    blk_simp [iblk]
    rw [V_main_arg0]
    refine rd2_ix _ _ _ _ ?_ ?_ <;> (blk_simp [idx t]; first | omega | skip)
  have hs : (iblk m c 1 t : FVec Ideal S1x1x1024 .f32) (ix3 0 0 k) = rd3 (SC m c) (group (512 * t.val + y)) 0 k := by
    blk_simp [iblk]
    rw [V_main_arg1, group_block _ _ y.isLt]
    refine rd3_ix _ _ _ _ _ ?_ ?_ ?_ <;> (blk_simp [idx t]; first | omega | skip)
  have hh : (iblk m c 2 t : FVec Ideal S1x1x1024 .f32) (ix3 0 0 k) = rd3 (SH m c) (group (512 * t.val + y)) 0 k := by
    blk_simp [iblk]
    rw [V_main_arg2, group_block _ _ y.isLt]
    refine rd3_ix _ _ _ _ _ ?_ ?_ ?_ <;> (blk_simp [idx t]; first | omega | skip)
  rw [act, ← hx, ← hs, ← hh]
  pointwise [k0_pay6]

/-- A loaded slab of the weight. -/
def Slab (wb : FVec Ideal S1024x512 .bf16) (o : ℕ) : Prop := ∀ (k : Fin 1024) (l : Fin 512), wb (ix2 k l) = rd2 (W m c) k (o + l)

/-- The block's activations times a slab of the weight. -/
theorem dot_at (wb : FVec Ideal S1024x512 .bf16) (o : ℕ) (hw : Slab m c wb o) (y l : Fin 512) :
    matmul (φ₁ := .bf16) (φ₂ := .bf16) dot_S512x1024_S1024x512_S512x512_1_0_0_1_n_n none
      (k0_pay6 (iblk m c 0 t) (iblk m c 1 t) (iblk m c 2 t) : FVec Ideal S512x1024 .bf16)
      (shapeCast S1024x512 wb shapeCasts_S1024x512_S1024x512) (constant (F := Ideal) S512x512 .f32 0x00000000#32) (ix2 y l)
      = proj (X m c) (SC m c) (SH m c) (W m c) (512 * t.val + y) (o + l) := by
  have ha := act_at m c t y
  generalize k0_pay6 (F := Ideal) _ _ _ = a at ha ⊢
  pointwise
  rw [proj]
  refine Finset.sum_congr rfl fun k _ => ?_
  rw [ha, hw]

/-- What the block's body loads of the weight from column `o` on is such a slab. -/
theorem slab_ld (o : ℕ) (h : ∀ a, (![0, o] : Fin 2 → Nat) a + S1024x512.size a ≤ S1024x4096.size a) :
    Slab m c (View.ld (iblk m c 3 t) (Rect.unit (s := S1024x4096) ![0, o] S1024x512.size h)) o := by
  intro k l
  pointwise
  blk_simp [iblk]
  rw [entry]
  refine rd2_ix _ _ _ _ ?_ ?_ <;> (blk_simp [idx t]; first | omega | skip)

/-- The body's modulated activations, its loads of whole blocks read off. -/
theorem pay10_eq : (k0_pay10 (iblk m c 0 t) (iblk m c 1 t) (iblk m c 2 t) (iblk m c 3 t) : FVec Ideal S512x1024 .bf16)
    = k0_pay6 (iblk m c 0 t) (iblk m c 1 t) (iblk m c 2 t) := by
  rw [k0_pay10]
  simp (disch := decide) only [View.ld_unit_lit']

/-- The queries. -/
theorem final4 : (dats m 0 c).arrAt 4 cfg0.N = fun j => slab (X m c) (SC m c) (SH m c) (W m c) 0 j * eighth := by
  refine (dats m 0 c).arrAt_eq_of_covers 4 _ (by decide +kernel) fun t _ y => ?_
  blk_simp
  rw [after0_4]
  idx_vars y
  frame_out
  refine (congrArg (· * eighth) (dot_at m c t _ 0 (slab_ld m c t 0 _) y0 y1)).trans ?_
  refine congrArg (· * eighth) (slab_at _ _ _ _ _ _ _ _ ?_ ?_) <;> (blk_simp [idx t]; first | omega | skip)

/-- The keys. -/
theorem final5 : (dats m 0 c).arrAt 5 cfg0.N = slab (X m c) (SC m c) (SH m c) (W m c) 512 := by
  refine (dats m 0 c).arrAt_eq_of_covers 5 _ (by decide +kernel) fun t _ y => ?_
  blk_simp
  rw [after0_5]
  idx_vars y
  frame_out
  refine (dot_at m c t _ 512 (slab_ld m c t 512 _) y0 y1).trans ?_
  refine slab_at _ _ _ _ _ _ _ _ ?_ ?_ <;> (blk_simp [idx t]; first | omega | skip)

/-- The values. -/
theorem final6 : (dats m 0 c).arrAt 6 cfg0.N = slab (X m c) (SC m c) (SH m c) (W m c) 1024 := by
  refine (dats m 0 c).arrAt_eq_of_covers 6 _ (by decide +kernel) fun t _ y => ?_
  blk_simp
  rw [after0_6]
  idx_vars y
  frame_out
  refine (dot_at m c t _ 1024 (slab_ld m c t 1024 _) y0 y1).trans ?_
  refine slab_at _ _ _ _ _ _ _ _ ?_ ?_ <;> (blk_simp [idx t]; first | omega | skip)

/-- The gated queries of the recurrent branch. -/
theorem final7 : (dats m 0 c).arrAt 7 cfg0.N = fun j => silu (slab (X m c) (SC m c) (SH m c) (W m c) 1536 j) * eighth := by
  refine (dats m 0 c).arrAt_eq_of_covers 7 _ (by decide +kernel) fun t _ y => ?_
  blk_simp
  rw [after0_7]
  idx_vars y
  frame_out
  rw [pay10_eq]
  refine (congrArg (silu · * eighth) (dot_at m c t _ 1536 (slab_ld m c t 1536 _) y0 y1)).trans ?_
  refine congrArg (silu · * eighth) (slab_at _ _ _ _ _ _ _ _ ?_ ?_) <;> (blk_simp [idx t]; first | omega | skip)

/-- The four plain results. -/
theorem final8 : (dats m 0 c).arrAt 8 cfg0.N = slab (X m c) (SC m c) (SH m c) (W m c) 2048 := by
  refine (dats m 0 c).arrAt_eq_of_covers 8 _ (by decide +kernel) fun t _ y => ?_
  blk_simp
  rw [after0_8]
  idx_vars y
  frame_out
  rw [pay10_eq]
  refine (dot_at m c t _ 2048 (slab_ld m c t 2048 _) y0 y1).trans ?_
  refine slab_at _ _ _ _ _ _ _ _ ?_ ?_ <;> (blk_simp [idx t]; first | omega | skip)

theorem final9 : (dats m 0 c).arrAt 9 cfg0.N = slab (X m c) (SC m c) (SH m c) (W m c) 2560 := by
  refine (dats m 0 c).arrAt_eq_of_covers 9 _ (by decide +kernel) fun t _ y => ?_
  blk_simp
  rw [after0_9]
  idx_vars y
  frame_out
  rw [pay10_eq]
  refine (dot_at m c t _ 2560 (slab_ld m c t 2560 _) y0 y1).trans ?_
  refine slab_at _ _ _ _ _ _ _ _ ?_ ?_ <;> (blk_simp [idx t]; first | omega | skip)

theorem final10 : (dats m 0 c).arrAt 10 cfg0.N = slab (X m c) (SC m c) (SH m c) (W m c) 3072 := by
  refine (dats m 0 c).arrAt_eq_of_covers 10 _ (by decide +kernel) fun t _ y => ?_
  blk_simp
  rw [after0_10]
  idx_vars y
  frame_out
  rw [pay10_eq]
  refine (dot_at m c t _ 3072 (slab_ld m c t 3072 _) y0 y1).trans ?_
  refine slab_at _ _ _ _ _ _ _ _ ?_ ?_ <;> (blk_simp [idx t]; first | omega | skip)

theorem final11 : (dats m 0 c).arrAt 11 cfg0.N = slab (X m c) (SC m c) (SH m c) (W m c) 3584 := by
  refine (dats m 0 c).arrAt_eq_of_covers 11 _ (by decide +kernel) fun t _ y => ?_
  blk_simp
  rw [after0_11]
  idx_vars y
  frame_out
  rw [pay10_eq]
  refine (dot_at m c t _ 3584 (slab_ld m c t 3584 _) y0 y1).trans ?_
  refine slab_at _ _ _ _ _ _ _ _ ?_ ?_ <;> (blk_simp [idx t]; first | omega | skip)

end Cert.EvenProjIdeal.Point

end
-- ==== Proof.EvenRef.lean ====
/- What the plain reference of the even layers' input projection computes, result by result. -/
module

public import proofs.«01_k».proof.Proof.Gen.EvenProjRefIdeal.Read
public import proofs.«01_k».proof.Proof.ProjSpec
public import Idealize.ShloMosaic.Lib.Pipeline.ValueKit

@[expose] public section

set_option maxRecDepth 16384

noncomputable section

namespace Cert.EvenProjRefIdeal.RefValue

open Cert.EvenProjRefIdeal Cert.EvenProjRefIdeal.Gen Cert.EvenProjRefIdeal.Read Idealize.ShloMosaic Idealize.ShloMosaic.TcCoe Idealize.SL.Sem
open Cert.Spec Cert.ProjSpec

variable (x : FVec Ideal S33792x1024 .f32) (sc sh : FVec Ideal S8x1x1024 .f32) (w : FVec Ideal S1024x4096 .f32)

/-- The modulated activations of the context tokens. -/
theorem ctx_at (n : Fin 1024) (k : Fin 1024) : val_main_v24 (F := Ideal) x sc sh (ix2 n k) = act x sc sh n k := by
  rw [val_main_v24_apply, val_main_v23_apply, val_main_v18_apply, val_main_v1_apply, val_main_v0_apply, val_main_v17_apply,
    val_main_v16_apply, val_main_v15_apply, val_main_v14_apply, val_main_cst_0_apply, val_main_v13_apply, val_main_v12_apply,
    val_main_v22_apply, val_main_v21_apply, val_main_v20_apply, val_main_v19_apply]
  have hg : group n = 4 := if_pos n.isLt
  rw [act, hg]
  exact congrArg₂ (· + ·) (congrArg₂ (· * ·) (rd2_ix x _ _ _ (by dsimp; omega) (by dsimp; omega))
    (congrArg (_ + ·) (rd3_ix sc _ _ _ _ (by dsimp) (by dsimp) (by dsimp; omega)))) (rd3_ix sh _ _ _ _ (by dsimp) (by dsimp) (by dsimp; omega))

/-- The modulated activations of the other tokens. -/
theorem lat_at (n : Fin 32768) (k : Fin 1024) : val_main_v25 (F := Ideal) x sc sh (ix2 n k) = act x sc sh (1024 + n) k := by
  rw [val_main_v25_apply, val_main_v11_apply, val_main_v8_apply, val_main_v3_apply, val_main_v2_apply, val_main_v7_apply,
    val_main_v6_apply, val_main_v5_apply, val_main_cst_apply, val_main_v4_apply, val_main_v10_apply, val_main_v9_apply]
  have hg : group (1024 + n) = n / 8192 := by rw [group, if_neg (by omega)]; omega
  rw [act, hg]
  exact congrArg₂ (· + ·) (congrArg₂ (· * ·) (rd2_ix x _ _ _ (by dsimp; omega) (by dsimp; omega))
    (congrArg (_ + ·) (rd3_ix sc _ _ _ _ (by dsimp; omega) (by dsimp) (by dsimp; omega)))) (rd3_ix sh _ _ _ _ (by dsimp; omega) (by dsimp) (by dsimp; omega))

/-- The modulated activations. -/
theorem act_at (n : Fin 33792) (k : Fin 1024) : val_main_v26 (F := Ideal) x sc sh (ix2 n k) = act x sc sh n k := by
  have hc := ctx_at x sc sh
  have hl := lat_at x sc sh
  unfold val_main_v26
  generalize val_main_v24 (F := Ideal) x sc sh = a at hc ⊢
  generalize val_main_v25 (F := Ideal) x sc sh = b at hl ⊢
  by_cases h : (n : ℕ) < 1024
  · rw [concatenate_pair_apply_left 0 a b _ (ix2 n k) rfl (ix2 ⟨n, h⟩ k) fun b => match b with | ⟨0, _⟩ => rfl | ⟨1, _⟩ => rfl]
    exact hc ⟨n, h⟩ k
  · rw [concatenate_pair_apply_right 0 a b _ (ix2 n k) rfl rfl (ix2 ⟨n - 1024, by omega⟩ k)
      (fun b => match b with | ⟨0, _⟩ => fun h => absurd rfl h | ⟨1, _⟩ => fun _ => rfl)
      (show (n : ℕ) - 1024 + 1024 = n by omega)]
    rw [hl]
    exact congrArg (fun z => act x sc sh z k) (show 1024 + ((n : ℕ) - 1024) = n by omega)

/-- The projection. -/
theorem proj_at (n : Fin 33792) (l : Fin 4096) : val_main_v27 (F := Ideal) x sc sh w (ix2 n l) = proj x sc sh w n l := by
  rw [val_main_v27_apply, proj]
  refine Finset.sum_congr rfl fun k _ => ?_
  have hw := rd2_ix w (ridx_main_v27 (ix2 n l) k) k l rfl rfl
  have ha := act_at x sc sh n k
  generalize val_main_v26 (F := Ideal) x sc sh = a at ha ⊢
  rw [hw, ← ha]
  exact congrArg (a · * _) (eq_ix2 _)

theorem proj_eq (j : S33792x4096.Idx) (n l : ℕ) (hn : (j 0 : ℕ) = n) (hl : (j 1 : ℕ) = l) :
    val_main_v27 (F := Ideal) x sc sh w j = proj x sc sh w n l := by
  subst hn hl
  exact (congrArg _ (eq_ix2 j)).trans (proj_at x sc sh w _ _)

/-- The queries, scaled. -/
theorem q_eq : val_main_v38 (F := Ideal) x sc sh w = fun j => slab x sc sh w 0 j * eighth := by
  funext j
  rw [val_main_v38_apply, val_main_v37_apply, val_main_v36_apply, val_main_cst_1_apply, val_main_v28_apply]
  exact congrArg (· * _) (proj_eq x sc sh w _ _ _ rfl (Nat.zero_add _).symm)

/-- The keys. -/
theorem k_eq : val_main_v39 (F := Ideal) x sc sh w = slab x sc sh w 512 := by
  funext j
  rw [val_main_v39_apply, val_main_v29_apply]
  exact proj_eq x sc sh w _ _ _ rfl rfl

/-- The values. -/
theorem v_eq : val_main_v40 (F := Ideal) x sc sh w = slab x sc sh w 1024 := by
  funext j
  rw [val_main_v40_apply, val_main_v30_apply]
  exact proj_eq x sc sh w _ _ _ rfl rfl

/-- The queries of the recurrent branch, gated and scaled. -/
theorem hq_eq : val_main_v43 (F := Ideal) x sc sh w = fun j => silu (slab x sc sh w 1536 j) * eighth := by
  funext j
  have e : val_main_v31 (F := Ideal) x sc sh w j = slab x sc sh w 1536 j := by
    rw [val_main_v31_apply]
    exact proj_eq x sc sh w _ _ _ rfl rfl
  rw [val_main_v43_apply, val_main_v42_apply, val_main_cst_2_apply, val_main_v41_apply, val_main_call0_v5_apply,
    val_main_call0_v4_apply, val_main_call0_cst_0_apply, val_main_call0_v3_apply, val_main_call0_v2_apply,
    val_main_call0_cst_apply, val_main_call0_v1_apply, val_main_call0_v0_apply, e]
  generalize slab x sc sh w 1536 j = y
  rw [silu, Ideal.logistic]
  pointwise
  rfl

/-- The first of the four plain results. -/
theorem ff_eq : val_main_v32 (F := Ideal) x sc sh w = slab x sc sh w 2048 := by
  funext j
  rw [val_main_v32_apply]
  exact proj_eq x sc sh w _ _ _ rfl rfl

/-- The second. -/
theorem fb_eq : val_main_v33 (F := Ideal) x sc sh w = slab x sc sh w 2560 := by
  funext j
  rw [val_main_v33_apply]
  exact proj_eq x sc sh w _ _ _ rfl rfl

/-- The third. -/
theorem hi_eq : val_main_v34 (F := Ideal) x sc sh w = slab x sc sh w 3072 := by
  funext j
  rw [val_main_v34_apply]
  exact proj_eq x sc sh w _ _ _ rfl rfl

/-- The fourth. -/
theorem hg_eq : val_main_v35 (F := Ideal) x sc sh w = slab x sc sh w 3584 := by
  funext j
  rw [val_main_v35_apply]
  exact proj_eq x sc sh w _ _ _ rfl rfl

end Cert.EvenProjRefIdeal.RefValue

end
-- ==== Proof.OddPoint.lean ====
/- What the odd layers' input projection leaves in its results, result by result. -/
module

public import proofs.«01_k».proof.Proof.Gen.OddProjIdeal.Value
public import proofs.«01_k».proof.Proof.ProjSpec
public import Idealize.ShloMosaic.Lib.Pipeline.ValueKit

@[expose] public section

set_option maxRecDepth 16384

noncomputable section

namespace Cert.OddProjIdeal.Point

open Cert.OddProjIdeal Cert.OddProjIdeal.Gen Idealize.ShloMosaic Idealize.ShloMosaic.TcCoe Idealize.SL.Sem
open Cert.Spec Cert.ProjSpec

/-- Where each window stands at a grid point. -/
theorem idx : ∀ t : Fin cfg0.N,
    win0_0.index t = ![t.val, 0] ∧ win0_1.index t = ![group (512 * t.val), 0, 0] ∧ win0_2.index t = ![group (512 * t.val), 0, 0]
    ∧ win0_3.index t = ![0, 0] ∧ win0_4.index t = ![t.val, 0] ∧ win0_5.index t = ![t.val, 0] ∧ t.val < 66 :=
  (by decide +kernel : ∀ t : Fin grid0.N,
    win0_0.index t = ![t.val, 0] ∧ win0_1.index t = ![group (512 * t.val), 0, 0] ∧ win0_2.index t = ![group (512 * t.val), 0, 0]
    ∧ win0_3.index t = ![0, 0] ∧ win0_4.index t = ![t.val, 0] ∧ win0_5.index t = ![t.val, 0] ∧ t.val < 66)

variable (m : (ℓ : Loc nD τ sig) → Buf (Elt Ideal) ℓ) (c : Dev nD) (t : Fin cfg0.N)

/-- The activations. -/
abbrev X : FVec Ideal S33792x1024 .f32 := m ((c : Thread nD τ).loc main_arg0)
/-- The scales. -/
abbrev SC : FVec Ideal S8x1x1024 .f32 := m ((c : Thread nD τ).loc main_arg1)
/-- The shifts. -/
abbrev SH : FVec Ideal S8x1x1024 .f32 := m ((c : Thread nD τ).loc main_arg2)
/-- The weight. -/
abbrev W : FVec Ideal S1024x2048 .f32 := m ((c : Thread nD τ).loc main_arg3)

theorem entry : (V (F := Ideal) m c main_v0 : FVec Ideal S1024x2048 .bf16) = W m c := by
  entry_read
  rfl

theorem act_at (y : Fin 512) (k : Fin 1024) :
    (k0_pay1 (iblk m c 0 t) (iblk m c 1 t) (iblk m c 2 t) : FVec Ideal S512x1024 .bf16) (ix2 y k)
      = act (X m c) (SC m c) (SH m c) (512 * t.val + y) k := by
  have hx : (iblk m c 0 t : FVec Ideal S512x1024 .f32) (ix2 y k) = rd2 (X m c) (512 * t.val + y) k := by
    blk_simp [iblk]
    rw [V_main_arg0]
    refine rd2_ix _ _ _ _ ?_ ?_ <;> (blk_simp [idx t]; first | omega | skip)
  have hs : (iblk m c 1 t : FVec Ideal S1x1x1024 .f32) (ix3 0 0 k) = rd3 (SC m c) (group (512 * t.val + y)) 0 k := by
    blk_simp [iblk]
    rw [V_main_arg1, group_block _ _ y.isLt]
    refine rd3_ix _ _ _ _ _ ?_ ?_ ?_ <;> (blk_simp [idx t]; first | omega | skip)
  have hh : (iblk m c 2 t : FVec Ideal S1x1x1024 .f32) (ix3 0 0 k) = rd3 (SH m c) (group (512 * t.val + y)) 0 k := by
    blk_simp [iblk]
    rw [V_main_arg2, group_block _ _ y.isLt]
    refine rd3_ix _ _ _ _ _ ?_ ?_ ?_ <;> (blk_simp [idx t]; first | omega | skip)
  rw [act, ← hx, ← hs, ← hh]
  pointwise [k0_pay1]

/-- A loaded slab of the weight. -/
def Slab (wb : FVec Ideal S1024x1024 .bf16) (o : ℕ) : Prop := ∀ (k : Fin 1024) (l : Fin 1024), wb (ix2 k l) = rd2 (W m c) k (o + l)

/-- The block's activations times a slab of the weight. -/
theorem dot_at (wb : FVec Ideal S1024x1024 .bf16) (o : ℕ) (hw : Slab m c wb o) (y : Fin 512) (l : Fin 1024) :
    matmul (φ₁ := .bf16) (φ₂ := .bf16) dot_S512x1024_S1024x1024_S512x1024_1_0_0_1_n_n none
      (k0_pay1 (iblk m c 0 t) (iblk m c 1 t) (iblk m c 2 t) : FVec Ideal S512x1024 .bf16)
      (shapeCast S1024x1024 wb shapeCasts_S1024x1024_S1024x1024) (constant (F := Ideal) S512x1024 .f32 0x00000000#32) (ix2 y l)
      = proj (X m c) (SC m c) (SH m c) (W m c) (512 * t.val + y) (o + l) := by
  have ha := act_at m c t y
  generalize k0_pay1 (F := Ideal) _ _ _ = a at ha ⊢
  pointwise
  rw [proj]
  refine Finset.sum_congr rfl fun k _ => ?_
  rw [ha, hw]

/-- What the block's body loads of the weight from column `o` on is such a slab. -/
theorem slab_ld (o : ℕ) (h : ∀ a, (![0, o] : Fin 2 → Nat) a + S1024x1024.size a ≤ S1024x2048.size a) :
    Slab m c (View.ld (iblk m c 3 t) (Rect.unit (s := S1024x2048) ![0, o] S1024x1024.size h)) o := by
  intro k l
  pointwise
  blk_simp [iblk]
  rw [entry]
  refine rd2_ix _ _ _ _ ?_ ?_ <;> (blk_simp [idx t]; first | omega | skip)

/-- The first half of the columns. -/
theorem final4 : (dats m 0 c).arrAt 4 cfg0.N = slab (X m c) (SC m c) (SH m c) (W m c) 0 := by
  refine (dats m 0 c).arrAt_eq_of_covers 4 _ (by decide +kernel) fun t _ y => ?_
  blk_simp
  rw [after0_4]
  idx_vars y
  frame_out
  refine (dot_at m c t _ 0 (slab_ld m c t 0 _) y0 y1).trans ?_
  refine slab_at _ _ _ _ _ _ _ _ ?_ ?_ <;> (blk_simp [idx t]; first | omega | skip)

/-- The second half. -/
theorem final5 : (dats m 0 c).arrAt 5 cfg0.N = slab (X m c) (SC m c) (SH m c) (W m c) 1024 := by
  refine (dats m 0 c).arrAt_eq_of_covers 5 _ (by decide +kernel) fun t _ y => ?_
  blk_simp
  rw [after0_5]
  idx_vars y
  frame_out
  refine (dot_at m c t _ 1024 (slab_ld m c t 1024 _) y0 y1).trans ?_
  refine slab_at _ _ _ _ _ _ _ _ ?_ ?_ <;> (blk_simp [idx t]; first | omega | skip)

end Cert.OddProjIdeal.Point

end
-- ==== Proof.OddRef.lean ====
/- What the plain reference of the odd layers' input projection computes, result by result. -/
module

public import proofs.«01_k».proof.Proof.Gen.OddProjRefIdeal.Read
public import proofs.«01_k».proof.Proof.EvenRef
public import Idealize.ShloMosaic.Lib.Pipeline.ValueKit

@[expose] public section

set_option maxRecDepth 16384

noncomputable section

namespace Cert.OddProjRefIdeal.RefValue

open Cert.OddProjRefIdeal Cert.OddProjRefIdeal.Gen Cert.OddProjRefIdeal.Read Idealize.ShloMosaic Idealize.ShloMosaic.TcCoe Idealize.SL.Sem
open Cert.Spec Cert.ProjSpec

variable (x : FVec Ideal S33792x1024 .f32) (sc sh : FVec Ideal S8x1x1024 .f32) (w : FVec Ideal S1024x2048 .f32)

/-- The modulated activations: the same operations as in the even layers' reference. -/
theorem act_at (n : Fin 33792) (k : Fin 1024) : val_main_v26 (F := Ideal) x sc sh (ix2 n k) = act x sc sh n k :=
  Cert.EvenProjRefIdeal.RefValue.act_at x sc sh n k

/-- The projection. -/
theorem proj_at (n : Fin 33792) (l : Fin 2048) : val_main_v27 (F := Ideal) x sc sh w (ix2 n l) = proj x sc sh w n l := by
  rw [val_main_v27_apply, proj]
  refine Finset.sum_congr rfl fun k _ => ?_
  have hw := rd2_ix w (ridx_main_v27 (ix2 n l) k) k l rfl rfl
  have ha := act_at x sc sh n k
  generalize val_main_v26 (F := Ideal) x sc sh = a at ha ⊢
  rw [hw, ← ha]
  exact congrArg (a · * _) (eq_ix2 _)

theorem proj_eq (j : S33792x2048.Idx) (n l : ℕ) (hn : (j 0 : ℕ) = n) (hl : (j 1 : ℕ) = l) :
    val_main_v27 (F := Ideal) x sc sh w j = proj x sc sh w n l := by
  subst hn hl
  exact (congrArg _ (eq_ix2 j)).trans (proj_at x sc sh w _ _)

/-- The first half of the columns. -/
theorem y_eq : val_main_v28 (F := Ideal) x sc sh w = slab x sc sh w 0 := by
  funext j
  rw [val_main_v28_apply]
  exact proj_eq x sc sh w _ _ _ rfl (Nat.zero_add _).symm

/-- The second half. -/
theorem u_eq : val_main_v29 (F := Ideal) x sc sh w = slab x sc sh w 1024 := by
  funext j
  rw [val_main_v29_apply]
  exact proj_eq x sc sh w _ _ _ rfl rfl

end Cert.OddProjRefIdeal.RefValue

end
-- ==== Proof.ExpertPre.lean ====
/- The precondition of the routed experts' call, read back: every block's expert is below 64 and its count is not negative. -/
module

public import proofs.«01_k».proof.Proof.Gen.Pre_block_tables
public import Idealize.ShloMosaic.Lib.ReduceAll
public import Idealize.ShloMosaic.Lib.WordCmp

@[expose] public section

noncomputable section

namespace Cert.ExpertPre

open Idealize.ShloMosaic Cert.Pre_block_tables

theorem bit {p : Prop} [Decidable p] (h : BitVec.ofBool (decide p) = 1#1) : p := by
  by_contra hp
  rw [decide_eq_false hp] at h
  exact absurd h (by decide)

theorem read {F : FTy → Type} [FloatOps F] (x0 : IVec S329728x512 32) (x1 x2 : IVec S322 32) (x3 x4 : FVec F S4x64x1024x256 .f32)
    (x5 : FVec F S4x64x256x1024 .f32) (h : fn x0 x1 x2 x3 x4 x5 = fun _ => 1#1) :
    (∀ i, (x1 i).toNat < 64) ∧ ∀ i, (x2 i).toNat < 2 ^ 31 := by
  have hs : Subsingleton S_.Idx := ⟨fun a b => funext fun i => i.elim0⟩
  have h0 := congrFun h (fun a => a.elim0)
  dsimp only [fn] at h0
  have h1 := IntOp.andi_eq_one.1 h0
  refine ⟨fun i => ?_, fun i => ?_⟩
  · have := Host.reduce_andi_all _ _ _ _ _ h1.1 i
    have h2 : IntOp.andi (IntOp.cmpi .sge (x1 i) 0#32) (IntOp.cmpi .slt (x1 i) (BitVec.ofNat 32 64)) = 1#1 := this
    rw [WordCmp.andi_sge_zero_slt_ofNat (by decide)] at h2
    exact bit h2
  · have := Host.reduce_andi_all _ _ _ _ _ h1.2 i
    have h2 : IntOp.cmpi .sge (x2 i) 0#32 = 1#1 := this
    rw [WordCmp.cmpi_sge_zero] at h2
    exact bit h2

end Cert.ExpertPre

end
-- ==== Proof.ExpertRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Kit
public import Idealize.ShloMosaic.Lib.Claim

@[expose] public section

set_option maxRecDepth 16384

noncomputable section

/-! The run of the grouped experts' call, for tables that give every block an expert and a count of at least zero. -/

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the table of counts, as the body is handed them. -/
abbrev tabE : Memref sig .tc .smem S322 .i32 := Memref.whole main_arg1
abbrev tabV : Memref sig .tc .smem S322 .i32 := Memref.whole main_arg2
abbrev TabBuf (c : Dev nD) (M : Memref sig .tc .smem S322 .i32) : Type := Buf (Elt F) (M.view.loc (c : Thread nD τ))
abbrev tabPt (c : Dev nD) (M : Memref sig .tc .smem S322 .i32) (f : TabBuf (F := F) c M) : sProp 𝕄 :=
  M.view.loc (c : Thread nD τ) ↦{fullShare.right} f

/-- The entry of a table of 322 words that belongs to a grid point. -/
def cell (i : grid0.Coords) : S322.Idx := fun a => ⟨(i 0).val, by obtain rfl : a = 0 := Subsingleton.elim _ _; exact (i 0).isLt⟩

theorem off_eq (i : grid0.Coords) (a : Fin 1) : k0_off1 i a = (i 0).val := by
  obtain rfl : a = 0 := Subsingleton.elim _ _
  have h : (i 0).val < 322 := (i 0).isLt
  unfold k0_off1
  simp only [Scalar.indexCast, Matrix.cons_val_zero]
  simp [BitVec.toNat_ofNat]
  try omega

/-- The word the body loads from the table of counts is the table's entry of the grid point. -/
theorem word_read (c : Dev nD) (i : grid0.Coords) (t : TabBuf (F := F) c tabV) (h : 0 < (Rect.unit (s := S322) (k0_off1 i) S1.size (k0_off1_inb i)).toLoadRect.shape.numel) :
    View.readAt (Elt F) tabV.view (Rect.unit (s := S322) (k0_off1 i) S1.size (k0_off1_inb i)).toLoadRect t (Shape.Idx.first h) = t (cell i) := by
  rw [View.readAt_apply]
  show t _ = t _
  refine congrArg t (funext fun a => Fin.ext ?_)
  show k0_off1 i a + 1 * (Shape.Idx.first h a).val = (i 0).val
  have h1 : ∀ b : Fin 1, (Shape.Idx.first h b).val = 0 := fun b => by
    have := (Shape.Idx.first h b).isLt
    obtain rfl : b = 0 := Subsingleton.elim _ _
    exact Nat.lt_one_iff.mp this
  rw [h1 a, off_eq]; omega

/-- What a grid point leaves in the output block: the expert's rows where the count is positive, zeros where it is not. -/
def blockOut (w : Elt F .i32) (x0 : Vec F S1024x512 .i32) (x1 x2 : Vec F S1x1x1024x256 .f32) (x3 : Vec F S1x1x256x1024 .f32) :
    Vec F S1024x1024 .bf16 := if k0_cond1 w = 1#1 then k0_pay1 w x0 x1 x2 x3 else k0_pay2

theorem run (c : Dev nD) (i : grid0.Coords) (a3 : Memref sig .tc .vmem S1024x512 .i32) (h3 : a3.IsWhole)
    (a4 a5 : Memref sig .tc .vmem S1x1x1024x256 .f32) (h4 : a4.IsWhole) (h5 : a5.IsWhole)
    (a6 : Memref sig .tc .vmem S1x1x256x1024 .f32) (h6 : a6.IsWhole)
    (a7 : Memref sig .tc .vmem S1024x1024 .bf16) (h7 : a7.IsWhole)
    (x0 : Vec F S1024x512 .i32) (x1 x2 : Vec F S1x1x1024x256 .f32) (x3 : Vec F S1x1x256x1024 .f32)
    (t0 : TabBuf (F := F) c tabE) (t1 : TabBuf (F := F) c tabV)
    (hw : (k0_cond1 (t1 (cell i)) = 1#1 ∧ ¬ k0_cond2 (t1 (cell i)) = 1#1) ∨ (¬ k0_cond1 (t1 (cell i)) = 1#1 ∧ k0_cond2 (t1 (cell i)) = 1#1))
    (E : Set ℕ) (K : PUnit → sProp 𝕄) :
    iprop(owns (c : Thread nD τ) a3 fullShare x0 ∗ owns (c : Thread nD τ) a4 fullShare x1
      ∗ owns (c : Thread nD τ) a5 fullShare x2 ∗ owns (c : Thread nD τ) a6 fullShare x3
      ∗ (∃ d, owns (c : Thread nD τ) a7 fullShare d) ∗ tabPt c tabE t0 ∗ tabPt c tabV t1
      ∗ (iprop(owns (c : Thread nD τ) a3 fullShare x0 ∗ owns (c : Thread nD τ) a4 fullShare x1
          ∗ owns (c : Thread nD τ) a5 fullShare x2 ∗ owns (c : Thread nD τ) a6 fullShare x3
          ∗ owns (c : Thread nD τ) a7 fullShare (blockOut (t1 (cell i)) x0 x1 x2 x3) ∗ tabPt c tabE t0 ∗ tabPt c tabV t1) -∗ K ⟨⟩))
      ⊢ wp frame (wpE (defs₀ (F := F)) Variants.none c none) E
          (cc0_moe_grouped_experts i tabE (Memref.isWhole_whole _) tabV (Memref.isWhole_whole _) a3 h3 a4 h4 a5 h5 a6 h6 a7 h7) K := by
  simp only [cc0_moe_grouped_experts_eq_skeleton]; unfold cc0_moe_grouped_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h3.eq_unread hf0; obtain rfl := h4.eq_unread hf1
  obtain rfl := h5.eq_unread hf2; obtain rfl := h6.eq_unread hf3
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    rw [show run.sl.r c i t1 = t1 (cell i) from word_read c i t1 _]
    unfold blockOut
    rcases hw with ⟨p, q⟩ | ⟨p, q⟩
    · rw [dif_neg q, dif_pos p, if_pos p, View.read_writes_full, View.readAt_full, View.readAt_full, View.readAt_full, View.readAt_full,
        h3.read_unread, h4.read_unread, h5.read_unread, h6.read_unread]
    · rw [dif_pos q, if_neg p, View.read_writes_full]
  isplitl [HT0]; · iexact HT0
  iexact HT1

end Cert.ExpertsIdeal.Gen

end
-- ==== Proof.ExpertLaunch.lean ====
module

public import proofs.«01_k».proof.Proof.ExpertRun

@[expose] public section

set_option maxRecDepth 16384

noncomputable section

/-! The launch of the grouped experts' call: what its 322 grid points leave in memory, for tables that place every block
inside the weights and give it a count of at least zero. Written once for any carrier of the floating-point types. -/

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables, read off the launch memory. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables place is inside its array. -/
abbrev Ok : Prop := ok0 (F := F) (tbl m)

/-- At every grid point exactly one of the body's two conditions on the count holds. -/
def Counted : Prop := ∀ i : grid0.Coords,
  (k0_cond1 (tbl m 1 (cell i)) = 1#1 ∧ ¬ k0_cond2 (tbl m 1 (cell i)) = 1#1)
    ∨ (¬ k0_cond1 (tbl m 1 (cell i)) = 1#1 ∧ k0_cond2 (tbl m 1 (cell i)) = 1#1)

abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tabPt c tabE (tbl m 0) ∗ tabPt c tabV (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output block is written back at every grid point. -/
theorem flush_out (hO : Ok m) : ∀ t : Fin (cfgM m hO).N, ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

/-- A window's block at a grid point, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the four inputs' and the output's staging buffers hold after a grid point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => blockOut (tbl m 1 (cell (grid0.coords t))) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_in0 (hO : Ok m) (c : Dev nD) (t : Fin (cfgM m hO).N) : (dats m hO 0 c).after 0 t = iblk m hO c 0 t := by dsimp only [dats]; try rfl
theorem after_in1 (hO : Ok m) (c : Dev nD) (t : Fin (cfgM m hO).N) : (dats m hO 0 c).after 1 t = iblk m hO c 1 t := by dsimp only [dats]; try rfl
theorem after_in2 (hO : Ok m) (c : Dev nD) (t : Fin (cfgM m hO).N) : (dats m hO 0 c).after 2 t = iblk m hO c 2 t := by dsimp only [dats]; try rfl
theorem after_in3 (hO : Ok m) (c : Dev nD) (t : Fin (cfgM m hO).N) : (dats m hO 0 c).after 3 t = iblk m hO c 3 t := by dsimp only [dats]; try rfl
theorem after_out (hO : Ok m) (c : Dev nD) (t : Fin (cfgM m hO).N) : (dats m hO 0 c).after 4 t
    = blockOut (tbl m 1 (cell (grid0.coords t))) (iblk m hO c 0 t) (iblk m hO c 1 t) (iblk m hO c 2 t) (iblk m hO c 3 t) := by
  dsimp only [dats]; try rfl

/-! An input's staging buffer holds its block at every point. -/

theorem before_in0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)

/-- The staging buffers in use at a grid point. -/
abbrev ms0 (hO : Ok m) (t : Fin (cfgM m hO).N) : Memref sig .tc .vmem S1024x512 .i32 := spec0_0.stage ((cfgM m hO).slots t 0)
abbrev ms1 (hO : Ok m) (t : Fin (cfgM m hO).N) : Memref sig .tc .vmem S1x1x1024x256 .f32 := spec0_1.stage ((cfgM m hO).slots t 1)
abbrev ms2 (hO : Ok m) (t : Fin (cfgM m hO).N) : Memref sig .tc .vmem S1x1x1024x256 .f32 := spec0_2.stage ((cfgM m hO).slots t 2)
abbrev ms3 (hO : Ok m) (t : Fin (cfgM m hO).N) : Memref sig .tc .vmem S1x1x256x1024 .f32 := spec0_3.stage ((cfgM m hO).slots t 3)
abbrev ms4 (hO : Ok m) (t : Fin (cfgM m hO).N) : Memref sig .tc .vmem S1024x1024 .bf16 := spec0_4.stage ((cfgM m hO).slots t 4)

abbrev bodyAt (hO : Ok m) (t : Fin (cfgM m hO).N) : Prog (TpuEff nD τ sig (Elt F) Λ₀ .tc) PUnit :=
  cc0_moe_grouped_experts (grid0.coords t) tabE (Memref.isWhole_whole _) tabV (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at a grid point, from its staging buffers to its staging buffers. -/
theorem sound_body (hO : Ok m) (hC : Counted m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_in0, before_in1, before_in2, before_in3]
  rw [show (dats m hO 0 c).Φ t.succ = (dats m hO 0 c).Φ t.castSucc from rfl,
    show (dats m hO 0 c).owesAt () t.succ = (dats m hO 0 c).owesAt () t.castSucc from rfl,
    after_in0, after_in1, after_in2, after_in3, after_out]
  rw [show (dats m hO 0 c).Φ t.castSucc = iprop(Pipeline.ΦA spec0 c ∗ Pipeline.ΦT pre0 (tbl m) c) from rfl, PhiT_eq]
  iintro ⟨⟨HΦ, ⟨HT0, HT1⟩⟩, Ho, ⟨%d0, H0⟩, ⟨%d1, H1⟩, ⟨%d2, H2⟩, ⟨%d3, H3⟩, ⟨%d4, H4⟩⟩
  iapply (run c (grid0.coords t) _ _ _ _ _ _ _ _ _ _ (iblk m hO c 0 t) (iblk m hO c 1 t) (iblk m hO c 2 t) (iblk m hO c 3 t) (tbl m 0) (tbl m 1) (hC (grid0.coords t)) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's buffer is handed back at what the body left at every point, since every point writes it back. -/
theorem leaves_out (hO : Ok m) (c : Dev nD) (t : Fin (cfgM m hO).N) : (dats (F := F) m hO 0 c).leavesExact 4 t
    = owns (c : Thread nD τ) (ms4 m hO t) fullShare ((dats m hO 0 c).after 4 t) := by
  unfold Dat.leavesExact
  rw [flush_out m hO t]
  cases (cfgM m hO).idle 4 ((cfgM m hO).grid.coords t) <;> rfl

theorem post_eq (hO : Ok m) (c : Dev nD) (t : Fin (cfgM m hO).N) : bodyPost m hO c t
    = iprop((dats m hO 0 c).Φ t.succ ∗ (dats m hO 0 c).owesAt () t.succ
      ∗ (dats m hO 0 c).leavesExact 0 t ∗ (dats m hO 0 c).leavesExact 1 t ∗ (dats m hO 0 c).leavesExact 2 t
      ∗ (dats m hO 0 c).leavesExact 3 t ∗ (dats m hO 0 c).leavesExact 4 t) := by
  rw [leaves_out]; rfl

theorem body_obligation (hO : Ok m) (hC : Counted m) (c : Dev nD) :
    BodyObligation (dats (F := F) m hO 0 c) (defs₀ (F := F)) Variants.none () Set.univ := fun t => by
  rw [bigSep_W0, bigSep_W0, defs₀_row m hO]
  exact triple_restated (sound_body m hO hC c t) rfl .rfl fun _ => (by rw [post_eq]; exact .rfl)

set_option backward.isDefEq.respectTransparency.types false in
theorem run_main_quiescent (hO : Ok m) (hC : Counted m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hC c).loose) (hshare := fun c => (dats m hO 0 c).share_full fun _ => rfl)
    (howed := fun _ _ => rfl) (V := V m) (hmain := hmain m Variants.none) (hA := A_eq m hO) (hpf := V_pre m)
    (hΦ := fun _ _ => rfl)

/-- The run: every execution ends, with the counters at zero, the six arguments unchanged and the result at what the grid
points wrote into it. -/
theorem run_main (hO : Ok m) (hC : Counted m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).1 0).trans (((dats m hO 0 c).arrAt_in 0 rfl _).trans (A_eq m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main_quiescent m ρ hO hC)

end Cert.ExpertsIdeal.Gen

end
-- ==== Proof.ExpertSpec.lean ====
/- The routed experts' call as a formula: every block of 1024 rows through its expert's SwiGLU feed-forward. -/
module

public import proofs.«01_k».proof.Proof.ProjSpec
public import Idealize.ShloMosaic.Lib.WordCmp
public import Idealize.ShloMosaic.PureOps.IdealRules

@[expose] public section

noncomputable section

namespace Cert.ExpertSpec

open Idealize.ShloMosaic Cert.Spec Cert.ProjSpec

/-- An array of four axes read at natural numbers, zero outside. -/
def rd4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem rd4_ix {a b c d : ℕ} (x : (⟨4, ![a, b, c, d]⟩ : Shape).Idx → EReal) (i : (⟨4, ![a, b, c, d]⟩ : Shape).Idx) (n k l p : ℕ)
    (h0 : (i 0 : ℕ) = n) (h1 : (i 1 : ℕ) = k) (h2 : (i 2 : ℕ) = l) (h3 : (i 3 : ℕ) = p) : x i = rd4 x n k l p := by
  subst h0 h1 h2 h3
  rw [rd4, dif_pos ⟨(i 0).isLt, (i 1).isLt, (i 2).isLt, (i 3).isLt⟩]
  exact congrArg x (eq_ix4 i)

/-- A table's word as a natural number. -/
def word (t : (⟨1, ![322]⟩ : Shape).Idx → BitVec 32) (b : ℕ) : ℕ := if h : b < 322 then (t (fun a => ⟨b, by
  obtain rfl : a = 0 := Subsingleton.elim _ _; exact h⟩)).toNat else 0

theorem word_ix (t : (⟨1, ![322]⟩ : Shape).Idx → BitVec 32) (i : (⟨1, ![322]⟩ : Shape).Idx) (b : ℕ) (h : (i 0 : ℕ) = b) :
    (t i).toNat = word t b := by
  subst h
  have hb : (i 0 : ℕ) < 322 := (i 0).isLt
  rw [word, dif_pos hb]
  refine congrArg (fun z => (t z).toNat) (funext fun a => Fin.ext ?_)
  obtain rfl : a = 0 := Subsingleton.elim _ _
  rfl

/-- The comparison of a row's number with a count. -/
theorem row_lt (r : ℕ) (w : BitVec 32) (hr : r < 1024) (hw : w.toNat < 2 ^ 31) {α : Type} (x y : α) :
    Scalar.select (IntOp.cmpi .slt (BitVec.ofNat 32 r) w) x y = if r < w.toNat then x else y := by
  have h : (BitVec.ofNat 32 r).toNat = r := by rw [BitVec.toNat_ofNat]; omega
  rw [WordCmp.cmpi_slt_of_lt (by rw [h]; show r < 2 ^ 31; omega) hw, h, Scalar.select]
  by_cases hh : r < w.toNat
  · rw [if_pos hh, decide_eq_true hh]; rfl
  · rw [if_neg hh, decide_eq_false hh]; rfl

/-- The number in a word's low half (p = 0) or high half (p = 1). -/
def half (w : BitVec 32) (p : ℕ) : EReal := Ideal.ofBits .bf16 (w.extractLsb' (p * 16) 16)

/-- Sixteen zeros below a half give a wider number of the same value. -/
theorem widened (h : BitVec 16) (w : BitVec 32) (hw : w.toNat = h.toNat * 65536) : Ideal.ieee 8 23 w = Ideal.ieee 8 7 h := by
  have hl := h.isLt
  have h1 : w.extractLsb' 31 1 = h.extractLsb' 15 1 := by
    apply BitVec.eq_of_toNat_eq
    rw [BitVec.extractLsb'_toNat, BitVec.extractLsb'_toNat, hw, Nat.shiftRight_eq_div_pow, Nat.shiftRight_eq_div_pow]
    omega
  have h2 : (w.extractLsb' 23 8).toNat = (h.extractLsb' 7 8).toNat := by
    rw [BitVec.extractLsb'_toNat, BitVec.extractLsb'_toNat, hw, Nat.shiftRight_eq_div_pow, Nat.shiftRight_eq_div_pow]
    omega
  have h3 : (w.extractLsb' 0 23).toNat = (h.extractLsb' 0 7).toNat * 65536 := by
    rw [BitVec.extractLsb'_toNat, BitVec.extractLsb'_toNat, hw, Nat.shiftRight_eq_div_pow, Nat.shiftRight_eq_div_pow]
    omega
  have hz : (2 : ℝ) ≠ 0 := two_ne_zero
  have hp : (65536 : ℝ) = (2 : ℝ) ^ (16 : ℤ) := by norm_num
  unfold Ideal.ieee
  dsimp only
  rw [h1, h2, h3]
  generalize (h.extractLsb' 7 8).toNat = ex
  generalize (h.extractLsb' 0 7).toNat = fr
  have hf : (fr * 65536 = 0) = (fr = 0) := by simp
  simp only [hf]
  refine if_congr Iff.rfl rfl (if_congr Iff.rfl ?_ ?_)
  · refine congrArg _ ?_
    rw [Nat.cast_mul, Nat.cast_ofNat, hp, mul_assoc, mul_assoc, mul_assoc, ← zpow_add₀ hz]
    norm_num
  · refine congrArg _ ?_
    rw [show 2 ^ 23 + fr * 65536 = (2 ^ 7 + fr) * 65536 by ring, Nat.cast_mul, Nat.cast_ofNat, hp, mul_assoc, mul_assoc, mul_assoc, ← zpow_add₀ hz]
    congr 3
    ring

/-- A word shifted left by sixteen is its low half, -/
theorem low_half (w : BitVec 32) : Ideal.ofBits .f32 (w <<< 16) = half w 0 := by
  refine widened _ _ ?_
  rw [BitVec.extractLsb'_toNat, BitVec.toNat_shiftLeft, Nat.shiftLeft_eq, Nat.shiftRight_eq_div_pow]
  omega

/-- and one with its low bits cleared its high half. -/
theorem high_half (w : BitVec 32) : Ideal.ofBits .f32 (w &&& 4294901760#32) = half w 1 := by
  refine widened _ _ ?_
  have : w &&& 4294901760#32 = (w.extractLsb' 16 16) ++ (0#16 : BitVec 16) := by
    have hw : w = w.extractLsb' 16 16 ++ w.extractLsb' 0 16 := by
      apply BitVec.eq_of_toNat_eq
      rw [BitVec.toNat_append, ← Nat.shiftLeft_add_eq_or_of_lt (BitVec.isLt _), Nat.shiftLeft_eq, BitVec.extractLsb'_toNat,
        BitVec.extractLsb'_toNat, Nat.shiftRight_eq_div_pow, Nat.shiftRight_eq_div_pow]
      omega
    exact (congrArg (· &&& 4294901760#32) hw).trans (IdealRules.bf16_pack.hi_of_append _ _)
  rw [this, BitVec.toNat_append]
  simp [Nat.shiftLeft_eq]

/-- The rows in the words: column j in a low half, column j + 512 in a high one. -/
def rows (x : (⟨2, ![329728, 512]⟩ : Shape).Idx → BitVec 32) : (⟨2, ![329728, 1024]⟩ : Shape).Idx → EReal :=
  fun j => half (x (ix2 (j 0) ⟨(j 1 : ℕ) % 512, Nat.mod_lt _ (by decide)⟩)) ((j 1 : ℕ) / 512)

variable (x : (⟨2, ![329728, 1024]⟩ : Shape).Idx → EReal) (e v : (⟨1, ![322]⟩ : Shape).Idx → BitVec 32)
variable (wg wu : (⟨4, ![4, 64, 1024, 256]⟩ : Shape).Idx → EReal) (wd : (⟨4, ![4, 64, 256, 1024]⟩ : Shape).Idx → EReal)

/-- A row of a block, zero past the block's count. -/
def masked (b r k : ℕ) : EReal := if r < word v b then rd2 x (1024 * b + r) k else 0

/-- A row's product with a column of its expert's weight. -/
def hid (w : (⟨4, ![4, 64, 1024, 256]⟩ : Shape).Idx → EReal) (b r h : ℕ) : EReal :=
  ∑ k : Fin 1024, masked x v b r k * rd4 w 0 (word e b) k h

/-- The gated hidden layer. -/
def gated (b r h : ℕ) : EReal := silu (hid x e v wg b r h) * hid x e v wu b r h

/-- The expert's result for a row. -/
def ffn (b r d : ℕ) : EReal := ∑ h : Fin 256, gated x e v wg wu b r h * rd4 wd 0 (word e b) h d

/-- The whole result. -/
def out (j : (⟨2, ![329728, 1024]⟩ : Shape).Idx) : EReal := ffn x e v wg wu wd ((j 0 : ℕ) / 1024) ((j 0 : ℕ) % 1024) (j 1)

theorem out_ix (j : (⟨2, ![329728, 1024]⟩ : Shape).Idx) (b r d : ℕ) (hr : r < 1024) (h0 : (j 0 : ℕ) = b * 1024 + r) (h1 : (j 1 : ℕ) = d) :
    out x e v wg wu wd j = ffn x e v wg wu wd b r d := by
  rw [out, h0, h1, show (b * 1024 + r) / 1024 = b by omega, show (b * 1024 + r) % 1024 = r by omega]

/-- A row past the count gives zeros. -/
theorem ffn_zero (b r d : ℕ) (h : ¬ r < word v b) : ffn x e v wg wu wd b r d = 0 := by
  have hm : ∀ w, hid x e v w b r = fun _ => 0 := fun w => funext fun l => by
    rw [hid]
    refine Finset.sum_eq_zero fun k _ => ?_
    rw [masked, if_neg h, zero_mul]
  rw [ffn]
  refine Finset.sum_eq_zero fun k _ => ?_
  rw [gated, hm, hm, mul_zero, zero_mul]

end Cert.ExpertSpec

end
-- ==== Proof.ExpertPoint.lean ====
/- The routed experts' call at its grid points: where its blocks lie, and what they hold. -/
module

public import proofs.«01_k».proof.Proof.ExpertLaunch
public import proofs.«01_k».proof.Proof.ExpertSpec
public import Idealize.ShloMosaic.Lib.Pipeline.ValueKit

@[expose] public section

set_option maxRecDepth 16384

noncomputable section

namespace Cert.ExpertsIdeal.Point

open Cert.ExpertsIdeal Cert.ExpertsIdeal.Gen Idealize.ShloMosaic Idealize.ShloMosaic.TcCoe Idealize.SL.Sem
open Cert.Spec Cert.ProjSpec Cert.ExpertSpec

section Tables

variable {F : FTy → Type} [FloatOps F]

/-- The entry of the table of experts that the weights' index maps read. -/
theorem tab_at (pf : pre0.Contents (Elt F)) (i : grid0.Coords) :
    pf.at 0 (Rect.unit (s := S322) ![(Scalar.indexCast (BitVec.ofNat 32 (i 0).val) : Index).toNat] S1.size (k0_off1_inb i)) numel1_S1 = pf 0 (cell i) := by
  refine congrArg (pf 0) (funext fun a => Fin.ext ?_)
  have hp : 0 < S1.numel := numel1_S1.symm ▸ Nat.one_pos
  have h1 : ∀ b : Fin 1, ((Shape.Idx.first hp : S1.Idx) b).val = 0 := fun b => by
    have := ((Shape.Idx.first hp : S1.Idx) b).isLt
    obtain rfl : b = 0 := Subsingleton.elim _ _
    exact Nat.lt_one_iff.mp this
  show k0_off1 i a + 1 * ((Shape.Idx.first hp : S1.Idx) a).val = (i 0).val
  exact (congrArg₂ (fun p q => p + 1 * q) (off_eq i a) (h1 a)).trans (by show (i 0).val + 1 * 0 = _; omega)

theorem at1 (pf : pre0.Contents (Elt F)) (i : grid0.Coords) :
    cc0_transform_1 k0_off1_inb numel1_S1 pf i = ![0, BitVec.toNat (w := 32) (pf 0 (cell i)), 0, 0] := by
  rw [← tab_at pf i]; rfl
theorem at2 (pf : pre0.Contents (Elt F)) (i : grid0.Coords) :
    cc0_transform_2 k0_off1_inb numel1_S1 pf i = ![0, BitVec.toNat (w := 32) (pf 0 (cell i)), 0, 0] := by
  rw [← tab_at pf i]; rfl
theorem at3 (pf : pre0.Contents (Elt F)) (i : grid0.Coords) :
    cc0_transform_3 k0_off1_inb numel1_S1 pf i = ![0, BitVec.toNat (w := 32) (pf 0 (cell i)), 0, 0] := by
  rw [← tab_at pf i]; rfl

/-- A block of one expert's weights lies inside the stack. -/
theorem inside (p q w : ℕ) (h : w < 64) (a : Fin 4) : (![0, w, 0, 0] a + 1) * ![1, 1, p, q] a ≤ ![4, 64, p, q] a := by
  match a with
  | ⟨0, _⟩ => show (0 + 1) * 1 ≤ 4; omega
  | ⟨1, _⟩ => show (w + 1) * 1 ≤ 64; omega
  | ⟨2, _⟩ => show (0 + 1) * p ≤ p; omega
  | ⟨3, _⟩ => show (0 + 1) * q ≤ q; omega

/-- Experts below 64 place every block inside the weights. -/
theorem ok_of (pf : pre0.Contents (Elt F)) (h : ∀ i : grid0.Coords, BitVec.toNat (w := 32) (pf 0 (cell i)) < 64) : ok0 pf := by
  refine ⟨fun i => ⟨fun a => ?_, Or.inl rfl⟩, fun i => ⟨fun a => ?_, Or.inl rfl⟩, fun i => ⟨fun a => ?_, Or.inl rfl⟩⟩
  · rw [at1]; exact inside 1024 256 _ (h i) a
  · rw [at2]; exact inside 1024 256 _ (h i) a
  · rw [at3]; exact inside 256 1024 _ (h i) a

/-- The body's first condition holds of the positive counts, -/
theorem cond1_iff (w : BitVec 32) (h : w.toNat < 2 ^ 31) : k0_cond1 w = 1#1 ↔ 0 < w.toNat := by
  have e : k0_cond1 w = IntOp.cmpi .ne (Scalar.extui (IntOp.cmpi .slt 0#32 w) : BitVec 32) 0#32 := by
    have : IntOp.cmpi .sgt w 0#32 = IntOp.cmpi .slt 0#32 w := rfl
    rw [← this]; rfl
  rw [e, WordCmp.cmpi_slt_of_lt (by decide) h]
  by_cases hw : 0 < w.toNat
  · rw [show (0#32).toNat = 0 from rfl, decide_eq_true hw]; exact ⟨fun _ => hw, fun _ => by decide⟩
  · rw [show (0#32).toNat = 0 from rfl, decide_eq_false hw]; exact ⟨fun h => absurd h (by decide), fun h => absurd h hw⟩

/-- and its second of the count zero. -/
theorem cond2_iff (w : BitVec 32) : k0_cond2 w = 1#1 ↔ w = 0#32 := by
  have e : k0_cond2 w = IntOp.cmpi .ne (Scalar.extui (BitVec.ofBool (w == 0#32)) : BitVec 32) 0#32 := rfl
  rw [e]
  by_cases hw : w = 0#32
  · subst hw; exact ⟨fun _ => rfl, fun _ => by decide⟩
  · rw [beq_eq_false_iff_ne.mpr hw]; exact ⟨fun h => absurd h (by decide), fun h => absurd h hw⟩

theorem counted (w : BitVec 32) (h : w.toNat < 2 ^ 31) : (k0_cond1 w = 1#1 ∧ ¬ k0_cond2 w = 1#1)
    ∨ (¬ k0_cond1 w = 1#1 ∧ k0_cond2 w = 1#1) := by
  rw [cond1_iff w h, cond2_iff]
  by_cases hw : w = 0#32
  · subst hw; exact .inr ⟨by decide, rfl⟩
  · refine .inl ⟨Nat.pos_of_ne_zero fun h0 => hw (BitVec.eq_of_toNat_eq h0), hw⟩

variable (m : (ℓ : Loc nD τ sig) → Buf (Elt F) ℓ)

/-- The tables as arrays of words. -/
abbrev TE : IVec S322 32 := m (((0 : Dev nD) : Thread nD τ).loc main_arg1)
abbrev TV : IVec S322 32 := m (((0 : Dev nD) : Thread nD τ).loc main_arg2)

theorem ok_tables (h : ∀ i, (TE m i).toNat < 64) : Ok m := ok_of (tbl m) fun i => h (cell i)
theorem counted_tables (h : ∀ i, (TV m i).toNat < 2 ^ 31) : Counted m := fun i => counted (TV m (cell i)) (h (cell i))

end Tables

variable (m : (ℓ : Loc nD τ sig) → Buf (Elt Ideal) ℓ) (hO : Ok m) (c : Dev nD) (t : Fin (cfgM m hO).N)

/-- The words, and the rows in them. -/
abbrev W : IVec S329728x512 32 := m ((c : Thread nD τ).loc main_arg0)
abbrev X : FVec Ideal S329728x1024 .bf16 := rows (W m c)
/-- The weights of the gate, of the second factor and of the last product. -/
abbrev WG : FVec Ideal S4x64x1024x256 .f32 := m ((c : Thread nD τ).loc main_arg3)
abbrev WU : FVec Ideal S4x64x1024x256 .f32 := m ((c : Thread nD τ).loc main_arg4)
abbrev WD : FVec Ideal S4x64x256x1024 .f32 := m ((c : Thread nD τ).loc main_arg5)

/-- A grid point's coordinate is its number. -/
theorem coord : ∀ t : Fin grid0.N, (grid0.coords t 0).val = t.val ∧ t.val < 322 ∧ cc0_transform_0 (grid0.coords t) = ![t.val, 0]
    ∧ cc0_transform_4 (grid0.coords t) = ![t.val, 0] := by
  decide +kernel

theorem expert_at (t : Fin grid0.N) : BitVec.toNat (w := 32) (tbl m 0 (cell (grid0.coords t))) = word (TE m) t.val :=
  word_ix (TE m) (cell (grid0.coords t)) t.val (coord t).1
theorem count_at (t : Fin grid0.N) : BitVec.toNat (w := 32) (tbl m 1 (cell (grid0.coords t))) = word (TV m) t.val :=
  word_ix (TV m) (cell (grid0.coords t)) t.val (coord t).1

/-- The column of words that holds a column of a row. -/
abbrev col (k : Fin 1024) : Fin 512 := ⟨(k : ℕ) % 512, Nat.mod_lt _ (by decide)⟩

/-- The block of rows. -/
theorem rows_at (y : Fin 1024) (k : Fin 1024) :
    half ((iblk m hO c 0 t : IVec S1024x512 32) (ix2 y (col k))) ((k : ℕ) / 512) = rd2 (X m c) (1024 * t.val + y) k := by
  have hc := (coord t).2.2.1
  have ht := (coord t).2.1
  have hn : 1024 * t.val + (y : ℕ) < 329728 := by have := y.isLt; omega
  refine Eq.trans ?_ (rd2_ix (X m c) (ix2 ⟨1024 * t.val + (y : ℕ), hn⟩ k) _ _ rfl rfl)
  refine congrArg (fun w => half w ((k : ℕ) / 512)) (congrArg (W m c) (funext fun a => Fin.ext ?_))
  refine (((cfgM m hO).win 0).rect_emb_val t (ix2 y (col k)) a).trans ?_
  match a with
  | ⟨0, _⟩ =>
    show cc0_transform_0 (grid0.coords t) 0 * 1024 + (y : ℕ) = 1024 * t.val + (y : ℕ)
    rw [hc]; show t.val * 1024 + (y : ℕ) = _; omega
  | ⟨1, _⟩ =>
    show cc0_transform_0 (grid0.coords t) 1 * 512 + (col k : ℕ) = (k : ℕ) % 512
    rw [hc]; show 0 * 512 + (k : ℕ) % 512 = _; omega

/-- An entry of a block of one expert's weights. -/
theorem rd4_block {p q : ℕ} (x : (⟨4, ![4, 64, p, q]⟩ : Shape).Idx → EReal) (j : (⟨4, ![4, 64, p, q]⟩ : Shape).Idx)
    (k : Fin p) (h : Fin q) (f : Fin 4 → ℕ) (e : ℕ) (hf : f = ![0, e, 0, 0])
    (hj : ∀ a : Fin 4, (j a : ℕ) = f a * (![1, 1, p, q] : Fin 4 → ℕ) a + (![0, 0, (k : ℕ), (h : ℕ)] : Fin 4 → ℕ) a) : x j = rd4 x 0 e k h := by
  subst hf
  refine rd4_ix x j _ _ _ _ ((hj 0).trans rfl) ((hj 1).trans (Nat.mul_one _)) ((hj 2).trans ?_) ((hj 3).trans ?_)
  · show 0 * p + (k : ℕ) = k; omega
  · show 0 * q + (h : ℕ) = h; omega

/-- The blocks of the three weights. -/
theorem gate_at (k : Fin 1024) (h : Fin 256) :
    (iblk m hO c 1 t : FVec Ideal S1x1x1024x256 .f32) (ix4 0 0 k h) = rd4 (WG m c) 0 (word (TE m) t.val) k h := by
  have hc := (at1 (tbl m) (grid0.coords t)).trans (congrArg (fun w => ![0, w, 0, 0]) (expert_at m t))
  refine rd4_block (WG m c) ((((cfgM m hO).win 1).blk t).view.emb (ix4 0 0 k h)) k h _ _ hc fun a => ?_
  refine (((cfgM m hO).win 1).rect_emb_val t (ix4 0 0 k h) a).trans ?_
  match a with | ⟨0, _⟩ => rfl | ⟨1, _⟩ => rfl | ⟨2, _⟩ => rfl | ⟨3, _⟩ => rfl

theorem up_at (k : Fin 1024) (h : Fin 256) :
    (iblk m hO c 2 t : FVec Ideal S1x1x1024x256 .f32) (ix4 0 0 k h) = rd4 (WU m c) 0 (word (TE m) t.val) k h := by
  have hc := (at2 (tbl m) (grid0.coords t)).trans (congrArg (fun w => ![0, w, 0, 0]) (expert_at m t))
  refine rd4_block (WU m c) ((((cfgM m hO).win 2).blk t).view.emb (ix4 0 0 k h)) k h _ _ hc fun a => ?_
  refine (((cfgM m hO).win 2).rect_emb_val t (ix4 0 0 k h) a).trans ?_
  match a with | ⟨0, _⟩ => rfl | ⟨1, _⟩ => rfl | ⟨2, _⟩ => rfl | ⟨3, _⟩ => rfl

theorem down_at (h : Fin 256) (d : Fin 1024) :
    (iblk m hO c 3 t : FVec Ideal S1x1x256x1024 .f32) (ix4 0 0 h d) = rd4 (WD m c) 0 (word (TE m) t.val) h d := by
  have hc := (at3 (tbl m) (grid0.coords t)).trans (congrArg (fun w => ![0, w, 0, 0]) (expert_at m t))
  refine rd4_block (WD m c) ((((cfgM m hO).win 3).blk t).view.emb (ix4 0 0 h d)) h d _ _ hc fun a => ?_
  refine (((cfgM m hO).win 3).rect_emb_val t (ix4 0 0 h d) a).trans ?_
  match a with | ⟨0, _⟩ => rfl | ⟨1, _⟩ => rfl | ⟨2, _⟩ => rfl | ⟨3, _⟩ => rfl

/-- A word masked by a row's number, read at its low half and at its high one. -/
theorem low_at (a b : ℕ) (w : BitVec 32) :
    Ideal.ofBits .f32 (IntOp.shli .vector (if a < b then w else 0#32) 16#32) = if a < b then half w 0 else 0 := by
  split
  · exact low_half w
  · exact (congrArg (Ideal.ofBits .f32) (by decide)).trans Ideal.ofBits_zero_f32

theorem high_at (a b : ℕ) (w : BitVec 32) :
    Ideal.ofBits .f32 (IntOp.andi (if a < b then w else 0#32) 4294901760#32) = if a < b then half w 1 else 0 := by
  split
  · exact high_half w
  · exact (congrArg (Ideal.ofBits .f32) (by decide)).trans Ideal.ofBits_zero_f32

/-- A row's product with a column of a weight, as the low halves' part and the high halves' part. -/
theorem parts (a b : ℕ) (row : Fin 512 → BitVec 32) (g : Fin 1024 → EReal) :
    (∑ i : Fin 512, Ideal.ofBits .f32 (IntOp.shli .vector (if a < b then row i else 0#32) 16#32) * g ⟨i, by omega⟩)
        + ∑ i : Fin 512, Ideal.ofBits .f32 (IntOp.andi (if a < b then row i else 0#32) 4294901760#32) * g ⟨512 + i, by omega⟩
      = ∑ k : Fin 1024, (if a < b then half (row (col k)) ((k : ℕ) / 512) else 0) * g k := by
  refine Eq.symm ((Fin.sum_univ_add (a := 512) (b := 512) (fun k : Fin (512 + 512) =>
    (if a < b then half (row (col k)) ((k : ℕ) / 512) else 0) * g k)).trans ?_)
  refine congrArg₂ (· + ·) (Finset.sum_congr rfl fun i _ => ?_) (Finset.sum_congr rfl fun i _ => ?_)
  · have hi := i.isLt
    have hc : col (Fin.castAdd 512 i) = i := Fin.ext (Nat.mod_eq_of_lt hi)
    have hd : ((Fin.castAdd 512 i : Fin (512 + 512)) : ℕ) / 512 = 0 := Nat.div_eq_of_lt hi
    rw [low_at, hc, hd]
    rfl
  · have hi := i.isLt
    have hc : col (Fin.natAdd 512 i) = i := Fin.ext (by show (512 + (i : ℕ)) % 512 = i; omega)
    have hd : ((Fin.natAdd 512 i : Fin (512 + 512)) : ℕ) / 512 = 1 := by show (512 + (i : ℕ)) / 512 = 1; omega
    rw [high_at, hc, hd]
    rfl

/-- What the body computes of its blocks where the count is positive. -/
theorem pay_at (w : BitVec 32) (hw : w.toNat < 2 ^ 31) (x0 : IVec S1024x512 32) (x1 x2 : FVec Ideal S1x1x1024x256 .f32)
    (x3 : FVec Ideal S1x1x256x1024 .f32) (y d : Fin 1024) :
    (k0_pay1 (F := Ideal) w x0 x1 x2 x3 : FVec Ideal S1024x1024 .bf16) (ix2 y d)
      = ∑ h : Fin 256, (silu (∑ k : Fin 1024, (if (y : ℕ) < w.toNat then half (x0 (ix2 y (col k))) ((k : ℕ) / 512) else 0) * x1 (ix4 0 0 k h))
          * ∑ k : Fin 1024, (if (y : ℕ) < w.toNat then half (x0 (ix2 y (col k))) ((k : ℕ) / 512) else 0) * x2 (ix4 0 0 k h)) * x3 (ix4 0 0 h d) := by
  pointwise [k0_pay1]
  simp only [row_lt _ _ y.isLt hw]
  refine Finset.sum_congr rfl fun h _ => ?_
  have hg := parts y w.toNat (fun i => x0 (ix2 y i)) (fun k => x1 (ix4 0 0 k h))
  have hu := parts y w.toNat (fun i => x0 (ix2 y i)) (fun k => x2 (ix4 0 0 k h))
  rw [hg, hu, silu]

/-- What the body leaves, from what its blocks hold. -/
theorem out_at (w : BitVec 32) (hw : w.toNat < 2 ^ 31) (x0 : IVec S1024x512 32) (x1 x2 : FVec Ideal S1x1x1024x256 .f32)
    (x3 : FVec Ideal S1x1x256x1024 .f32) (x : FVec Ideal S329728x1024 .bf16) (e v : IVec S322 32) (wg wu : FVec Ideal S4x64x1024x256 .f32)
    (wd : FVec Ideal S4x64x256x1024 .f32) (b : ℕ) (y d : Fin 1024) (hn : w.toNat = word v b)
    (hx : ∀ k : Fin 1024, half (x0 (ix2 y (col k))) ((k : ℕ) / 512) = rd2 x (1024 * b + y) k)
    (hg : ∀ (k : Fin 1024) (h : Fin 256), x1 (ix4 0 0 k h) = rd4 wg 0 (word e b) k h)
    (hu : ∀ (k : Fin 1024) (h : Fin 256), x2 (ix4 0 0 k h) = rd4 wu 0 (word e b) k h)
    (hd : ∀ (h : Fin 256) (d : Fin 1024), x3 (ix4 0 0 h d) = rd4 wd 0 (word e b) h d) :
    blockOut (F := Ideal) w x0 x1 x2 x3 (ix2 y d) = ffn x e v wg wu wd b y d := by
  unfold blockOut
  by_cases hp : k0_cond1 w = 1#1
  · rw [if_pos hp, pay_at _ hw]
    simp only [hx, hg, hu, hd, hn]
    rfl
  · rw [if_neg hp, ffn_zero]
    · pointwise [k0_pay2]
    · rw [← hn]
      have h0 : ¬ 0 < w.toNat := fun h => hp ((cond1_iff w hw).mpr h)
      omega

/-- What a grid point leaves in the output block. -/
theorem block_at (hv : ∀ i, (TV m i).toNat < 2 ^ 31) (y d : Fin 1024) :
    ((dats m hO 0 c).after 4 t : FVec Ideal S1024x1024 .bf16) (ix2 y d) = ffn (X m c) (TE m) (TV m) (WG m c) (WU m c) (WD m c) t.val y d := by
  rw [after_out]
  exact out_at (TV m (cell (grid0.coords t))) (hv (cell (grid0.coords t))) _ _ _ _ _ _ _ _ _ _ t.val y d (count_at m t)
    (rows_at m hO c t y) (gate_at m hO c t) (up_at m hO c t) (down_at m hO c t)

/-- Where the output block's elements lie. -/
theorem place (y : S1024x1024.Idx) (a : Fin 2) :
    ((((cfgM m hO).win 4).blk t).view.emb y a : ℕ) = (![t.val, 0] : Fin 2 → ℕ) a * 1024 + y a := by
  refine (((cfgM m hO).win 4).rect_emb_val t y a).trans ?_
  have h := congrFun (coord t).2.2.2 a
  match a with
  | ⟨0, _⟩ => exact congrArg (· * 1024 + (y ⟨0, by decide⟩ : ℕ)) h
  | ⟨1, _⟩ => exact congrArg (· * 1024 + (y ⟨1, by decide⟩ : ℕ)) h

/-- Every row of the result is in the block of one grid point. -/
theorem cover (i : S329728x1024.Idx) : ∃ t : Fin (cfgM m hO).N, ((cfgM m hO).win 4).flush t = true ∧ i ∈ (((cfgM m hO).win 4).blk t).view.set := by
  have h0 : (i 0 : ℕ) < 329728 := (i 0).isLt
  have h1 : (i 1 : ℕ) < 1024 := (i 1).isLt
  have hN : grid0.N = 322 := by decide +kernel
  let t : Fin grid0.N := ⟨(i 0 : ℕ) / 1024, by omega⟩
  refine ⟨t, flush_out m hO t, ?_⟩
  have e : (((cfgM m hO).win 4).blk t).view.emb (ix2 (⟨(i 0 : ℕ) % 1024, by omega⟩ : Fin 1024) (⟨(i 1 : ℕ), h1⟩ : Fin 1024) : S1024x1024.Idx) = i := by
    funext a
    refine Fin.ext ((place m hO t _ a).trans ?_)
    match a with
    | ⟨0, _⟩ =>
      show (i 0 : ℕ) / 1024 * 1024 + (i 0 : ℕ) % 1024 = i 0
      omega
    | ⟨1, _⟩ =>
      show 0 * 1024 + (i 1 : ℕ) = i 1
      omega
  exact e ▸ View.emb_mem_set _ _

/-- What a grid point writes back is its part of the whole result. -/
theorem part (hv : ∀ i, (TV m i).toNat < 2 ^ 31) (y : S1024x1024.Idx) :
    ((dats m hO 0 c).after 4 t : FVec Ideal S1024x1024 .bf16) y
      = out (X m c) (TE m) (TV m) (WG m c) (WU m c) (WD m c) ((((cfgM m hO).win 4).blk t).view.emb y) := by
  have h0 : (y 0 : ℕ) < 1024 := (y 0).isLt
  rw [out_ix _ _ _ _ _ _ _ t.val (y 0) (y 1) h0 (place m hO t y 0) ((place m hO t y 1).trans (by show 0 * 1024 + (y 1 : ℕ) = y 1; omega))]
  exact (congrArg _ (eq_ix2 y)).trans (block_at m hO c t hv (y 0) (y 1))

/-- The whole result. -/
theorem final (hv : ∀ i, (TV m i).toNat < 2 ^ 31) :
    (dats m hO 0 c).arrAt 4 (cfgM m hO).N = out (X m c) (TE m) (TV m) (WG m c) (WU m c) (WD m c) :=
  (dats m hO 0 c).arrAt_eq_of_emb 4 _ (fun t _ y => part m hO c t hv y) (cover m hO)

end Cert.ExpertsIdeal.Point

end
-- ==== Proof.ExpertFrame.lean ====
/- The frame of the routed experts' call as printed, from the run written for any carrier: the two programs' tables of
   bodies are the same. -/
module

public import proofs.«01_k».proof.Defs
public import proofs.«01_k».proof.Proof.Gen.Experts
public import proofs.«01_k».proof.Proof.Gen.Pre_block_tables
public import proofs.«01_k».proof.Proof.ExpertPre
public import proofs.«01_k».proof.Proof.ExpertPoint

@[expose] public section

set_option maxRecDepth 16384

noncomputable section

namespace Cert.ExpertFrame

open Idealize.ShloMosaic Idealize.SL.Sem

theorem body_same : @Cert.Experts.cc0_moe_grouped_experts Bits _ _ = @Cert.ExpertsIdeal.cc0_moe_grouped_experts Bits _ _ := rfl

theorem bodies_same : Cert.Experts.defs₀ (F := Bits) = Cert.ExpertsIdeal.defs₀ (F := Bits) := by
  refine congrArg Defs.onTc (funext fun l => funext fun x => ?_)
  match l, x with
  | ⟨0, _⟩, (t, s) =>
    exact congrFun (congrFun (congrFun (congrFun (congrFun (congrFun (congrFun (congrFun (congrFun (congrFun (congrFun (congrFun
      (congrFun (congrFun (congrFun body_same _) _) _) _) _) _) _) _) _) _) _) _) _) _) _

theorem defs_same : Cert.Experts.defs (F := Bits) = Cert.ExpertsIdeal.defs (F := Bits) :=
  congrArg (Pipeline.defs Cert.ExpertsIdeal.pcfgs) bodies_same

theorem main_same : Cert.Experts.main (F := Bits) = Cert.ExpertsIdeal.main (F := Bits) := rfl

/-- Tables as the precondition has them place every block and count every grid point. -/
theorem tables (m : (ℓ : Loc Cert.Experts.nD Cert.Experts.τ Cert.Experts.sig) → Buf (Elt Bits) ℓ) (h : Cert.Pre_Experts m) :
    Cert.ExpertsIdeal.Gen.Ok (F := Bits) m ∧ Cert.ExpertsIdeal.Gen.Counted (F := Bits) m := by
  have h := Cert.ExpertPre.read _ _ _ _ _ _ (h 0)
  exact ⟨Cert.ExpertsIdeal.Point.ok_tables (F := Bits) m h.1, Cert.ExpertsIdeal.Point.counted_tables (F := Bits) m h.2⟩

/-- The routed experts' call ends with its arguments as they were and its counters at zero. -/
theorem frame : Cert.quiescent_Experts := fun m g hpre => by
  have h := Cert.ExpertsIdeal.Gen.run_main (F := Bits) m g (tables m hpre).1 (tables m hpre).2
  rw [← main_same, ← defs_same] at h
  exact (θ_run (Cert.Experts.defs (F := Bits)) _ _).mono (fun _ h => ⟨fun c => (h.1 c).2, h.2⟩) h

end Cert.ExpertFrame

end
-- ==== Proof.ExpertRef.lean ====
/- What the plain reference of the routed experts' call computes. -/
module

public import proofs.«01_k».proof.Proof.Gen.ExpertsRefIdeal.Read
public import proofs.«01_k».proof.Proof.ExpertSpec
public import proofs.«01_k».proof.Proof.Gather
public import Idealize.ShloMosaic.Lib.Pipeline.ValueKit
public import Idealize.ShloMosaic.Lib.BitcastConvert

@[expose] public section

set_option maxRecDepth 16384

noncomputable section

namespace Cert.ExpertsRefIdeal.RefValue

open Cert.ExpertsRefIdeal Cert.ExpertsRefIdeal.Gen Cert.ExpertsRefIdeal.Read Idealize.ShloMosaic Idealize.ShloMosaic.TcCoe Idealize.SL.Sem
open Cert.Spec Cert.ProjSpec Cert.ExpertSpec

variable (x : IVec S329728x512 32) (e v : IVec S322 32) (wg wu : FVec Ideal S4x64x1024x256 .f32) (wd : FVec Ideal S4x64x256x1024 .f32)

/-- A word below 64 is used as it is: neither raised by 64 nor clamped. -/
theorem used (w : BitVec 32) (h : w.toNat < 64) :
    min (Scalar.select (IntOp.cmpi .slt w 0x0#32) (IntOp.addi w 0x40#32) w).toInt.toNat 63 = w.toNat := by
  have h0 : IntOp.cmpi .slt w 0x0#32 = 0#1 := by
    rw [WordCmp.cmpi_slt_of_lt (by omega) (by decide)]
    rfl
  rw [h0]
  have : Scalar.select (0#1) (IntOp.addi w 0x40#32) w = w := rfl
  rw [this, BitVec.toInt_eq_toNat_of_lt (by omega), Int.toNat_natCast]
  omega

theorem word18 (y : S322x1.Idx) (b : ℕ) (hb : (y 0 : ℕ) = b) (he : ∀ i, (e i).toNat < 64) :
    min (val_main_v18 (F := Ideal) e y).toInt.toNat 63 = word e b := by
  rw [val_main_v18_apply, val_main_v17_apply, val_main_v14_apply, val_main_v16_apply, val_main_v13_apply, val_main_v15_apply,
    val_main_c_apply, val_main_c_0_apply]
  exact (used _ (he _)).trans (word_ix e _ b hb)

theorem v27_eq : val_main_v27 (F := Ideal) e = val_main_v18 (F := Ideal) e := rfl
theorem v36_eq : val_main_v36 (F := Ideal) e = val_main_v18 (F := Ideal) e := rfl

theorem gather_in (a : FVec Ideal S64x1024x256 .f32) (idx : IVec S322x1 32) (y : S322x1024x256.Idx) :
    Host.gather gather_S64x1024x256_S322x1_S322x1024x256_12_0_n_n_0_1_11024256 a idx y
      = a (ix3 ⟨min (idx (ix2 (y 0) 0)).toInt.toNat 63, by omega⟩ (y 1) (y 2)) := by
  unfold Host.gather
  congr 1
  funext a
  refine Fin.ext ?_
  match a with
  | ⟨0, _⟩ =>
    refine Gather.word_axis _ y idx 0 (by decide) (by decide) (by decide) _ ?_
    funext b
    refine Fin.ext ?_
    match b with
    | ⟨0, _⟩ => rfl
    | ⟨1, _⟩ => rfl
  | ⟨1, _⟩ => exact Gather.whole_axis _ y idx 1 (by decide) (by decide) (by decide) 1 (by decide)
  | ⟨2, _⟩ => exact Gather.whole_axis _ y idx 2 (by decide) (by decide) (by decide) 2 (by decide)

theorem gather_out (a : FVec Ideal S64x256x1024 .f32) (idx : IVec S322x1 32) (y : S322x256x1024.Idx) :
    Host.gather gather_S64x256x1024_S322x1_S322x256x1024_12_0_n_n_0_1_12561024 a idx y
      = a (ix3 ⟨min (idx (ix2 (y 0) 0)).toInt.toNat 63, by omega⟩ (y 1) (y 2)) := by
  unfold Host.gather
  congr 1
  funext a
  refine Fin.ext ?_
  match a with
  | ⟨0, _⟩ =>
    refine Gather.word_axis _ y idx 0 (by decide) (by decide) (by decide) _ ?_
    funext b
    refine Fin.ext ?_
    match b with
    | ⟨0, _⟩ => rfl
    | ⟨1, _⟩ => rfl
  | ⟨1, _⟩ => exact Gather.whole_axis _ y idx 1 (by decide) (by decide) (by decide) 1 (by decide)
  | ⟨2, _⟩ => exact Gather.whole_axis _ y idx 2 (by decide) (by decide) (by decide) 2 (by decide)

/-- The weight of a block's expert, for the gate. -/
theorem gate_at (he : ∀ i, (e i).toNat < 64) (b : Fin 322) (k : Fin 1024) (h : Fin 256) :
    val_main_v19 (F := Ideal) e wg (ix3 b k h) = rd4 wg 0 (word e b) k h := by
  unfold val_main_v19
  rw [gather_in, val_main_v12_apply, val_main_v11_apply]
  have hw := word18 e (ix2 b 0) b rfl he
  refine rd4_ix wg _ _ _ _ _ ?_ ?_ ?_ ?_ <;> (dsimp; first | omega | skip)

/-- The same for the second factor. -/
theorem up_at (he : ∀ i, (e i).toNat < 64) (b : Fin 322) (k : Fin 1024) (h : Fin 256) :
    val_main_v28 (F := Ideal) e wu (ix3 b k h) = rd4 wu 0 (word e b) k h := by
  unfold val_main_v28
  rw [gather_in, val_main_v21_apply, val_main_v20_apply, v27_eq]
  have hw := word18 e (ix2 b 0) b rfl he
  refine rd4_ix wu _ _ _ _ _ ?_ ?_ ?_ ?_ <;> (dsimp; first | omega | skip)

/-- The same for the last product. -/
theorem down_at (he : ∀ i, (e i).toNat < 64) (b : Fin 322) (h : Fin 256) (d : Fin 1024) :
    val_main_v37 (F := Ideal) e wd (ix3 b h d) = rd4 wd 0 (word e b) h d := by
  unfold val_main_v37
  rw [gather_out, val_main_v30_apply, val_main_v29_apply, v36_eq]
  have hw := word18 e (ix2 b 0) b rfl he
  refine rd4_ix wd _ _ _ _ _ ?_ ?_ ?_ ?_ <;> (dsimp; first | omega | skip)

/-- A word's halves, as the reference splits them. -/
theorem half_at (j : S329728x512x2.Idx) : val_main_v0 (F := Ideal) x j = half (x (ix2 (j 0) (j 1))) (j 2) := by
  unfold val_main_v0
  rw [bitcastToFloat_apply, Host.bitcastConvertNarrow_apply]
  refine congrArg (fun w : BitVec 32 => half w (j 2)) (congrArg x (funext fun a => Fin.ext ?_))
  match a with
  | ⟨0, _⟩ => rfl
  | ⟨1, _⟩ => rfl

/-- The masked rows. -/
theorem rows_at (hv : ∀ i, (v i).toNat < 2 ^ 31) (b : Fin 322) (r k : Fin 1024) :
    val_main_v10 (F := Ideal) x v (ix3 b r k) = masked (rows x) v b r k := by
  rw [val_main_v10_apply, val_main_call0_v1_apply, val_main_v9_apply, val_main_v7_apply, val_main_v5_apply, val_main_v4_apply,
    val_main_v8_apply, val_main_v6_apply, val_main_v3_apply, val_main_v2_apply, val_main_v1_apply, half_at, val_main_call0_v2_apply, val_main_call0_v0_apply,
    val_main_cst_apply, masked]
  refine (row_lt r _ r.isLt (hv _) _ _).trans ?_
  rw [word_ix v _ b rfl]
  have h0 : Ideal.ofBits .f32 0x00000000#32 = (0 : EReal) := Ideal.ofBits_zero_f32
  refine congrArg₂ (fun p q => if (r : ℕ) < word v b then p else q) ?_ h0
  have hb := b.isLt
  have hr := r.isLt
  have hk := k.isLt
  refine Eq.trans ?_ (rd2_ix (rows x) (ix2 ⟨1024 * (b : ℕ) + (r : ℕ), by omega⟩ k) _ _ rfl rfl)
  have h1 : (((b : ℕ) * 1024 + (r : ℕ)) * 1024 + (k : ℕ)) / 512 % 2 = (k : ℕ) / 512 := by omega
  refine (congrArg (half _) h1).trans (congrArg (fun w => half w ((k : ℕ) / 512)) (congrArg x (funext fun a => Fin.ext ?_)))
  match a with
  | ⟨0, _⟩ =>
    show (((b : ℕ) * 1024 + (r : ℕ)) * 1024 + (k : ℕ)) / 1024 = 1024 * (b : ℕ) + (r : ℕ)
    omega
  | ⟨1, _⟩ =>
    show (((b : ℕ) * 1024 + (r : ℕ)) * 1024 + (k : ℕ)) % 512 = (k : ℕ) % 512
    omega

theorem hid38 (he : ∀ i, (e i).toNat < 64) (hv : ∀ i, (v i).toNat < 2 ^ 31) (b : Fin 322) (r : Fin 1024) (h : Fin 256) :
    val_main_v38 (F := Ideal) x e v wg (ix3 b r h) = hid (rows x) e v wg b r h := by
  rw [val_main_v38_apply, hid]
  have ha := rows_at x v hv b r
  have hw := gate_at e wg he b
  generalize val_main_v10 (F := Ideal) x v = a at ha ⊢
  generalize val_main_v19 (F := Ideal) e wg = w at hw ⊢
  refine Finset.sum_congr rfl fun k _ => ?_
  rw [← ha k, ← hw k h]
  exact congrArg₂ (· * ·) (congrArg a (eq_ix3 _)) (congrArg w (eq_ix3 _))

theorem hid40 (he : ∀ i, (e i).toNat < 64) (hv : ∀ i, (v i).toNat < 2 ^ 31) (b : Fin 322) (r : Fin 1024) (h : Fin 256) :
    val_main_v40 (F := Ideal) x e v wu (ix3 b r h) = hid (rows x) e v wu b r h := by
  rw [val_main_v40_apply, hid]
  have ha := rows_at x v hv b r
  have hw := up_at e wu he b
  generalize val_main_v10 (F := Ideal) x v = a at ha ⊢
  generalize val_main_v28 (F := Ideal) e wu = w at hw ⊢
  refine Finset.sum_congr rfl fun k _ => ?_
  rw [← ha k, ← hw k h]
  exact congrArg₂ (· * ·) (congrArg a (eq_ix3 _)) (congrArg w (eq_ix3 _))

theorem gated_at (he : ∀ i, (e i).toNat < 64) (hv : ∀ i, (v i).toNat < 2 ^ 31) (b : Fin 322) (r : Fin 1024) (h : Fin 256) :
    val_main_v41 (F := Ideal) x e v wg wu (ix3 b r h) = gated (rows x) e v wg wu b r h := by
  rw [val_main_v41_apply, val_main_v39_apply, val_main_call1_v5_apply, val_main_call1_v4_apply, val_main_call1_cst_0_apply,
    val_main_call1_v3_apply, val_main_call1_v2_apply, val_main_call1_cst_apply, val_main_call1_v1_apply, val_main_call1_v0_apply,
    hid38 x e v wg he hv, hid40 x e v wu he hv, gated]
  generalize hid (rows x) e v wg b r h = y
  generalize hid (rows x) e v wu b r h = z
  rw [silu, Ideal.logistic]
  pointwise

/-- The reference is the formula. -/
theorem ref_eq (he : ∀ i, (e i).toNat < 64) (hv : ∀ i, (v i).toNat < 2 ^ 31) :
    val_main_v44 (F := Ideal) x e v wg wu wd = out (rows x) e v wg wu wd := by
  funext j
  have hj : (j 0 : ℕ) < 329728 := (j 0).isLt
  have hj1 : (j 1 : ℕ) < 1024 := (j 1).isLt
  rw [val_main_v44_apply, val_main_v43_apply, val_main_v42_apply, out, ffn]
  have hg := gated_at x e v wg wu he hv ⟨(j 0 : ℕ) / 1024, by omega⟩ ⟨(j 0 : ℕ) % 1024, by omega⟩
  have hd := fun h => down_at e wd he ⟨(j 0 : ℕ) / 1024, by omega⟩ h ⟨j 1, hj1⟩
  generalize val_main_v41 (F := Ideal) x e v wg wu = a at hg ⊢
  generalize val_main_v37 (F := Ideal) e wd = w at hd ⊢
  refine Finset.sum_congr rfl fun h _ => ?_
  rw [← hg h, ← hd h]
  refine congrArg₂ (· * ·) (congrArg a (funext fun q => Fin.ext ?_)) (congrArg w (funext fun q => Fin.ext ?_))
  · match q with
    | ⟨0, _⟩ => dsimp; omega
    | ⟨1, _⟩ => dsimp; omega
    | ⟨2, _⟩ => rfl
  · match q with
    | ⟨0, _⟩ => dsimp; omega
    | ⟨1, _⟩ => rfl
    | ⟨2, _⟩ => dsimp; omega

end Cert.ExpertsRefIdeal.RefValue

end
-- ==== Proof.lean ====
module

public import proofs.«01_k».proof.Defs
public import proofs.«01_k».proof.Proof.Gen.Experts
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.ExpertsRefIdeal.Read
public import proofs.«01_k».proof.Proof.Gen.Pre_block_tables
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.EvenProj.Frame
public import proofs.«01_k».proof.Proof.Gen.OddProj.Frame
public import proofs.«01_k».proof.Proof.Gen.EvenProjIdeal.Value
public import proofs.«01_k».proof.Proof.Gen.OddProjIdeal.Value
public import proofs.«01_k».proof.Proof.Gen.EvenProjRefIdeal.Run
public import proofs.«01_k».proof.Proof.Gen.EvenProjRefIdeal.Read
public import proofs.«01_k».proof.Proof.Gen.OddProjRefIdeal.Run
public import proofs.«01_k».proof.Proof.Gen.OddProjRefIdeal.Read
public import proofs.«01_k».proof.Proof.Point
public import proofs.«01_k».proof.Proof.RefValue
public import proofs.«01_k».proof.Proof.Finite
public import proofs.«01_k».proof.Proof.EvenPoint
public import proofs.«01_k».proof.Proof.EvenRef
public import proofs.«01_k».proof.Proof.OddPoint
public import proofs.«01_k».proof.Proof.OddRef
public import proofs.«01_k».proof.Proof.ExpertPre
public import proofs.«01_k».proof.Proof.ExpertFrame
public import proofs.«01_k».proof.Proof.ExpertPoint
public import proofs.«01_k».proof.Proof.ExpertRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves the attention of every token, head and dimension. -/
theorem reference_eq (m : (ℓ : Loc Cert.KernelIdeal.nD Cert.KernelIdeal.τ Cert.KernelIdeal.sig) → Buf (Elt Ideal) ℓ)
    (c : Dev Cert.KernelIdeal.nD) :
    Cert.ReferenceIdeal.Read.val_main_v132 (F := Ideal) (Cert.KernelIdeal.Point.Q m c) (Cert.KernelIdeal.Point.K m c)
      (Cert.KernelIdeal.Point.W m c) (Cert.KernelIdeal.Point.R m c) = Cert.KernelIdeal.Point.G m c := by
  funext j
  idx_vars j
  exact Cert.ReferenceIdeal.RefValue.out_at _ _ _ _ ⟨j0 / 8192, by omega⟩ ⟨j1 / 64, by omega⟩ ⟨j0 % 8192 / 64, by omega⟩
    ⟨j0 % 64, by omega⟩ ⟨j1 % 64, by omega⟩ j0 j1 (by dsimp only; omega) (by dsimp only; omega)

theorem algebraic : Cert.algebraic_KernelIdeal_ReferenceIdeal_pre_finite_scores := by
  pair_intro
  · run_from Cert.KernelIdeal.Value.run_blocks m g
  · run_from Cert.ReferenceIdeal.Value.run m' g'
    have h := Cert.Finite.read _ _ _ _ (hpre c)
    refine Eq.trans ?_ (Cert.KernelIdeal.Point.final m c h.1 h.2.1 h.2.2).symm
    refine Eq.trans ?_ (reference_eq m c)
    rw [Cert.ReferenceIdeal.Read.val_main_v132_eq, (hagree c).1, (hagree c).2.1, (hagree c).2.2.1, (hagree c).2.2.2]

/-- The reference ends with its arguments as they were and its counters at zero. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

theorem even_algebraic : Cert.algebraic_EvenProjIdeal_EvenProjRefIdeal := by
  pair_intro
  · run_from Cert.EvenProjIdeal.Value.run_blocks m g
  · run_from Cert.EvenProjRefIdeal.Value.run m' g'
    · exact ((Cert.EvenProjRefIdeal.Read.val_main_v38_eq _ _ _ _).trans (Cert.EvenProjRefIdeal.RefValue.q_eq _ _ _ _)).trans (Cert.EvenProjIdeal.Point.final4 m c).symm
    · exact ((Cert.EvenProjRefIdeal.Read.val_main_v39_eq _ _ _ _).trans (Cert.EvenProjRefIdeal.RefValue.k_eq _ _ _ _)).trans (Cert.EvenProjIdeal.Point.final5 m c).symm
    · exact ((Cert.EvenProjRefIdeal.Read.val_main_v40_eq _ _ _ _).trans (Cert.EvenProjRefIdeal.RefValue.v_eq _ _ _ _)).trans (Cert.EvenProjIdeal.Point.final6 m c).symm
    · refine Eq.trans ?_ (Cert.EvenProjIdeal.Point.final7 m c).symm
      rw [Cert.EvenProjRefIdeal.Read.val_main_v43_eq, (hagree c).1, (hagree c).2.1, (hagree c).2.2.1, (hagree c).2.2.2]
      exact Cert.EvenProjRefIdeal.RefValue.hq_eq _ _ _ _
    · exact ((Cert.EvenProjRefIdeal.Read.val_main_v32_eq _ _ _ _).trans (Cert.EvenProjRefIdeal.RefValue.ff_eq _ _ _ _)).trans (Cert.EvenProjIdeal.Point.final8 m c).symm
    · exact ((Cert.EvenProjRefIdeal.Read.val_main_v33_eq _ _ _ _).trans (Cert.EvenProjRefIdeal.RefValue.fb_eq _ _ _ _)).trans (Cert.EvenProjIdeal.Point.final9 m c).symm
    · exact ((Cert.EvenProjRefIdeal.Read.val_main_v34_eq _ _ _ _).trans (Cert.EvenProjRefIdeal.RefValue.hi_eq _ _ _ _)).trans (Cert.EvenProjIdeal.Point.final10 m c).symm
    · exact ((Cert.EvenProjRefIdeal.Read.val_main_v35_eq _ _ _ _).trans (Cert.EvenProjRefIdeal.RefValue.hg_eq _ _ _ _)).trans (Cert.EvenProjIdeal.Point.final11 m c).symm

theorem odd_algebraic : Cert.algebraic_OddProjIdeal_OddProjRefIdeal := by
  pair_intro
  · run_from Cert.OddProjIdeal.Value.run_blocks m g
  · run_from Cert.OddProjRefIdeal.Value.run m' g'
    · exact ((Cert.OddProjRefIdeal.Read.val_main_v28_eq _ _ _ _).trans (Cert.OddProjRefIdeal.RefValue.y_eq _ _ _ _)).trans (Cert.OddProjIdeal.Point.final4 m c).symm
    · exact ((Cert.OddProjRefIdeal.Read.val_main_v29_eq _ _ _ _).trans (Cert.OddProjRefIdeal.RefValue.u_eq _ _ _ _)).trans (Cert.OddProjIdeal.Point.final5 m c).symm

/-- The even layers' reference ends with its arguments as they were and its counters at zero. -/
theorem even_ends (m : (ℓ : Loc Cert.EvenProjRefIdeal.nD Cert.EvenProjRefIdeal.τ Cert.EvenProjRefIdeal.sig) → Buf (Elt Ideal) ℓ) (g : Dev Cert.EvenProjRefIdeal.nD → PrngReg) :
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3))
      ∧ r.2.sem = fun _ => 0) :=
  (θ_run Cert.EvenProjRefIdeal.defs _ _).mono (fun r h => ⟨fun c => (h c).2.2.2.2.2.2.2.2, sem_eq_zero_of_no_sems (by decide) r.2⟩)
    (Cert.EvenProjRefIdeal.Value.run (F := Ideal) m g)

/-- The odd layers' reference ends with its arguments as they were and its counters at zero. -/
theorem odd_ends (m : (ℓ : Loc Cert.OddProjRefIdeal.nD Cert.OddProjRefIdeal.τ Cert.OddProjRefIdeal.sig) → Buf (Elt Ideal) ℓ) (g : Dev Cert.OddProjRefIdeal.nD → PrngReg) :
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2)
      ∧ r.2.mem ((c.tc : Thread Cert.OddProjRefIdeal.nD Cert.OddProjRefIdeal.τ).loc Cert.OddProjRefIdeal.main_arg3) = m ((c.tc : Thread Cert.OddProjRefIdeal.nD Cert.OddProjRefIdeal.τ).loc Cert.OddProjRefIdeal.main_arg3))
      ∧ r.2.sem = fun _ => 0) :=
  (θ_run Cert.OddProjRefIdeal.defs _ _).mono (fun r h => ⟨fun c => (h c).2.2, sem_eq_zero_of_no_sems (by decide) r.2⟩)
    (Cert.OddProjRefIdeal.Value.run (F := Ideal) m g)

/-- The idealized call of the routed experts ends with its arguments as they were and its counters at zero. -/
theorem experts_ideal_frame : Cert.quiescent_ExpertsIdeal := fun m g hpre => by
  have h := Cert.ExpertPre.read _ _ _ _ _ _ (hpre 0)
  exact (θ_run Cert.ExpertsIdeal.defs _ _).mono (fun _ h => ⟨fun c => (h.1 c).2, h.2⟩)
    (Cert.ExpertsIdeal.Gen.run_main m g (Cert.ExpertsIdeal.Point.ok_tables m h.1) (Cert.ExpertsIdeal.Point.counted_tables m h.2))

theorem experts_algebraic : Cert.algebraic_ExpertsIdeal_ExpertsRefIdeal := fun m g m' g' hpre hagree => by
  have h := Cert.ExpertPre.read _ _ _ _ _ _ (hpre 0)
  have hO := Cert.ExpertsIdeal.Point.ok_tables m h.1
  refine ⟨fun c => (Cert.ExpertsIdeal.Gen.dats m hO 0 c).arrAt 4 (Cert.ExpertsIdeal.Gen.cfgM m hO).N,
    (θ_run Cert.ExpertsIdeal.defs _ _).mono (fun _ h => h.1)
      (Cert.ExpertsIdeal.Gen.run_main m g hO (Cert.ExpertsIdeal.Point.counted_tables m h.2)),
    (θ_run Cert.ExpertsRefIdeal.defs _ _).mono (fun _ hr c => ⟨(hr c).1.trans ?_, (hr c).2⟩)
      (Cert.ExpertsRefIdeal.Value.run (F := Ideal) m' g')⟩
  obtain rfl : c = 0 := Subsingleton.elim _ _
  refine Eq.trans ?_ (Cert.ExpertsIdeal.Point.final m hO 0 h.2).symm
  rw [Cert.ExpertsRefIdeal.Read.val_main_v44_eq, (hagree 0).1, (hagree 0).2.1, (hagree 0).2.2.1, (hagree 0).2.2.2.1, (hagree 0).2.2.2.2.1,
    (hagree 0).2.2.2.2.2]
  exact Cert.ExpertsRefIdeal.RefValue.ref_eq _ _ _ _ _ _ h.1 h.2

/-- The routed experts' reference ends with its arguments as they were and its counters at zero. -/
theorem experts_ends (m : (ℓ : Loc Cert.ExpertsRefIdeal.nD Cert.ExpertsRefIdeal.τ Cert.ExpertsRefIdeal.sig) → Buf (Elt Ideal) ℓ) (g : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0) :=
  (θ_run Cert.ExpertsRefIdeal.defs _ _).mono (fun r h => ⟨fun c => (h c).2, sem_eq_zero_of_no_sems (by decide) r.2⟩)
    (Cert.ExpertsRefIdeal.Value.run (F := Ideal) m g)

theorem claim : Cert.Claim := ⟨Cert.Kernel.Gen.facts, Cert.KernelIdeal.Gen.facts, Cert.ReferenceIdeal.Gen.facts, Cert.EvenProj.Gen.facts,
  Cert.EvenProjIdeal.Gen.facts, Cert.EvenProjRefIdeal.Gen.facts, Cert.OddProj.Gen.facts, Cert.OddProjIdeal.Gen.facts,
  Cert.OddProjRefIdeal.Gen.facts, Cert.Experts.Gen.facts, Cert.ExpertsIdeal.Gen.facts, Cert.ExpertsRefIdeal.Gen.facts,
  Cert.Pre_finite_scores.Gen.facts, Cert.Pre_block_tables.Gen.facts,
  fun m g _ => Cert.Kernel.Gen.frame m g, fun m g _ => Cert.KernelIdeal.Gen.frame m g, fun m g _ => Cert.KernelIdeal.Gen.frame m g,
  fun m g _ => reference_ends m g, fun m g _ => reference_ends m g,
  fun m g _ => Cert.EvenProj.Gen.frame m g, fun m g _ => Cert.EvenProjIdeal.Gen.frame m g, fun m g _ => even_ends m g,
  fun m g _ => Cert.OddProj.Gen.frame m g, fun m g _ => Cert.OddProjIdeal.Gen.frame m g, fun m g _ => odd_ends m g,
  Cert.ExpertFrame.frame, experts_ideal_frame, fun m g _ => experts_ends m g, fun m g _ => experts_ends m g,
  trivial, algebraic, trivial, even_algebraic, trivial, odd_algebraic, trivial, experts_algebraic⟩

end Cert.Proof

end
